-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S2x256x1024 : Shape := ⟨3, ![2, 256, 1024]⟩
abbrev S16384x1024 : Shape := ⟨2, ![16384, 1024]⟩
abbrev S64 : Shape := ⟨1, ![64]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .local _ .vmem, ⟨0, _⟩ => ⟨S2x256x1024, .f32⟩
  | .local _ .vmem, ⟨1, _⟩ => ⟨S2x256x1024, .bf16⟩
  | .local _ .vmem, ⟨2, _⟩ => ⟨S16384x1024, .bf16⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 384 → Bool
  | ⟨i, _⟩ => dmaSemScopedAt i

abbrev sig : RefSig :=
  (ofTc nBuf bufTy 1 384 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v8 : BitVec 32 := Scalar.muli v5 c16384_i32
  let v11 : BitVec 32 := Scalar.addi v8 c0_i32
  let c0_i32_10 : BitVec 32 := 0#32
  ![v11.toNat, 0]
def k0_dev1 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v24 : BitVec 32 := Scalar.muli v6 c2_i32_17
  let v25 : BitVec 32 := Scalar.addi c0_i32_18 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v26 : BitVec 32 := Scalar.muli v5 c1_i32_19
  let v27 : BitVec 32 := Scalar.addi v25 v26
  v27.toNat
def k0_dev2 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v28 : BitVec 32 := Scalar.muli v2 c2_i32_21
  let v29 : BitVec 32 := Scalar.addi c0_i32_22 v28
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_23 : BitVec 32 := 1#32
  let v30 : BitVec 32 := Scalar.muli v7 c1_i32_23
  let v31 : BitVec 32 := Scalar.addi v29 v30
  v31.toNat
def k0_dev3 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v50 : BitVec 32 := Scalar.muli v6 c2_i32_44
  let v51 : BitVec 32 := Scalar.addi c0_i32_45 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v52 : BitVec 32 := Scalar.muli v5 c1_i32_46
  let v53 : BitVec 32 := Scalar.addi v51 v52
  v53.toNat
def k0_dev4 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v79 : BitVec 32 := Scalar.muli v6 c2_i32_69
  let v80 : BitVec 32 := Scalar.addi c0_i32_70 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v81 : BitVec 32 := Scalar.muli v5 c1_i32_71
  let v82 : BitVec 32 := Scalar.addi v80 v81
  v82.toNat
def k0_dev5 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v112 : BitVec 32 := Scalar.muli v2 c2_i32_101
  let v113 : BitVec 32 := Scalar.addi c0_i32_102 v112
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_103 : BitVec 32 := 1#32
  let v114 : BitVec 32 := Scalar.muli v7 c1_i32_103
  let v115 : BitVec 32 := Scalar.addi v113 v114
  v115.toNat
def k0_dev6 (d0 : Dev nD) : Nat :=
  let c0_i32_135 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_134 : BitVec 32 := 2#32
  let v145 : BitVec 32 := Scalar.muli v6 c2_i32_134
  let v146 : BitVec 32 := Scalar.addi c0_i32_135 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v147 : BitVec 32 := Scalar.muli v5 c1_i32_136
  let v148 : BitVec 32 := Scalar.addi v146 v147
  v148.toNat
def k0_dev7 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v178 : BitVec 32 := Scalar.muli v2 c2_i32_165
  let v179 : BitVec 32 := Scalar.addi c0_i32_166 v178
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_167 : BitVec 32 := 1#32
  let v180 : BitVec 32 := Scalar.muli v7 c1_i32_167
  let v181 : BitVec 32 := Scalar.addi v179 v180
  v181.toNat
def k0_dev8 (d0 : Dev nD) : Nat :=
  let c0_i32_199 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_198 : BitVec 32 := 2#32
  let v211 : BitVec 32 := Scalar.muli v6 c2_i32_198
  let v212 : BitVec 32 := Scalar.addi c0_i32_199 v211
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v213 : BitVec 32 := Scalar.muli v5 c1_i32_200
  let v214 : BitVec 32 := Scalar.addi v212 v213
  v214.toNat
def k0_dev9 (d0 : Dev nD) : Nat :=
  let c0_i32_230 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_229 : BitVec 32 := 2#32
  let v244 : BitVec 32 := Scalar.muli v2 c2_i32_229
  let v245 : BitVec 32 := Scalar.addi c0_i32_230 v244
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_231 : BitVec 32 := 1#32
  let v246 : BitVec 32 := Scalar.muli v7 c1_i32_231
  let v247 : BitVec 32 := Scalar.addi v245 v246
  v247.toNat
def k0_dev10 (d0 : Dev nD) : Nat :=
  let c0_i32_263 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_262 : BitVec 32 := 2#32
  let v277 : BitVec 32 := Scalar.muli v6 c2_i32_262
  let v278 : BitVec 32 := Scalar.addi c0_i32_263 v277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_264 : BitVec 32 := 1#32
  let v279 : BitVec 32 := Scalar.muli v5 c1_i32_264
  let v280 : BitVec 32 := Scalar.addi v278 v279
  v280.toNat
def k0_dev11 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v310 : BitVec 32 := Scalar.muli v2 c2_i32_293
  let v311 : BitVec 32 := Scalar.addi c0_i32_294 v310
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_295 : BitVec 32 := 1#32
  let v312 : BitVec 32 := Scalar.muli v7 c1_i32_295
  let v313 : BitVec 32 := Scalar.addi v311 v312
  v313.toNat
def k0_dev12 (d0 : Dev nD) : Nat :=
  let c0_i32_327 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_326 : BitVec 32 := 2#32
  let v343 : BitVec 32 := Scalar.muli v6 c2_i32_326
  let v344 : BitVec 32 := Scalar.addi c0_i32_327 v343
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v345 : BitVec 32 := Scalar.muli v5 c1_i32_328
  let v346 : BitVec 32 := Scalar.addi v344 v345
  v346.toNat
def k0_dev13 (d0 : Dev nD) : Nat :=
  let c0_i32_358 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_357 : BitVec 32 := 2#32
  let v376 : BitVec 32 := Scalar.muli v2 c2_i32_357
  let v377 : BitVec 32 := Scalar.addi c0_i32_358 v376
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_359 : BitVec 32 := 1#32
  let v378 : BitVec 32 := Scalar.muli v7 c1_i32_359
  let v379 : BitVec 32 := Scalar.addi v377 v378
  v379.toNat
def k0_dev14 (d0 : Dev nD) : Nat :=
  let c0_i32_391 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_390 : BitVec 32 := 2#32
  let v409 : BitVec 32 := Scalar.muli v6 c2_i32_390
  let v410 : BitVec 32 := Scalar.addi c0_i32_391 v409
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_392 : BitVec 32 := 1#32
  let v411 : BitVec 32 := Scalar.muli v5 c1_i32_392
  let v412 : BitVec 32 := Scalar.addi v410 v411
  v412.toNat
def k0_dev15 (d0 : Dev nD) : Nat :=
  let c0_i32_422 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_421 : BitVec 32 := 2#32
  let v442 : BitVec 32 := Scalar.muli v2 c2_i32_421
  let v443 : BitVec 32 := Scalar.addi c0_i32_422 v442
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_423 : BitVec 32 := 1#32
  let v444 : BitVec 32 := Scalar.muli v7 c1_i32_423
  let v445 : BitVec 32 := Scalar.addi v443 v444
  v445.toNat
def k0_dev16 (d0 : Dev nD) : Nat :=
  let c0_i32_455 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_454 : BitVec 32 := 2#32
  let v475 : BitVec 32 := Scalar.muli v6 c2_i32_454
  let v476 : BitVec 32 := Scalar.addi c0_i32_455 v475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_456 : BitVec 32 := 1#32
  let v477 : BitVec 32 := Scalar.muli v5 c1_i32_456
  let v478 : BitVec 32 := Scalar.addi v476 v477
  v478.toNat
def k0_dev17 (d0 : Dev nD) : Nat :=
  let c0_i32_486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_485 : BitVec 32 := 2#32
  let v508 : BitVec 32 := Scalar.muli v2 c2_i32_485
  let v509 : BitVec 32 := Scalar.addi c0_i32_486 v508
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_487 : BitVec 32 := 1#32
  let v510 : BitVec 32 := Scalar.muli v7 c1_i32_487
  let v511 : BitVec 32 := Scalar.addi v509 v510
  v511.toNat
def k0_dev18 (d0 : Dev nD) : Nat :=
  let c0_i32_519 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_518 : BitVec 32 := 2#32
  let v541 : BitVec 32 := Scalar.muli v6 c2_i32_518
  let v542 : BitVec 32 := Scalar.addi c0_i32_519 v541
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_520 : BitVec 32 := 1#32
  let v543 : BitVec 32 := Scalar.muli v5 c1_i32_520
  let v544 : BitVec 32 := Scalar.addi v542 v543
  v544.toNat
def k0_dev19 (d0 : Dev nD) : Nat :=
  let c0_i32_550 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_549 : BitVec 32 := 2#32
  let v574 : BitVec 32 := Scalar.muli v2 c2_i32_549
  let v575 : BitVec 32 := Scalar.addi c0_i32_550 v574
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_551 : BitVec 32 := 1#32
  let v576 : BitVec 32 := Scalar.muli v7 c1_i32_551
  let v577 : BitVec 32 := Scalar.addi v575 v576
  v577.toNat
def k0_dev20 (d0 : Dev nD) : Nat :=
  let c0_i32_583 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_582 : BitVec 32 := 2#32
  let v607 : BitVec 32 := Scalar.muli v6 c2_i32_582
  let v608 : BitVec 32 := Scalar.addi c0_i32_583 v607
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_584 : BitVec 32 := 1#32
  let v609 : BitVec 32 := Scalar.muli v5 c1_i32_584
  let v610 : BitVec 32 := Scalar.addi v608 v609
  v610.toNat
def k0_dev21 (d0 : Dev nD) : Nat :=
  let c0_i32_614 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_613 : BitVec 32 := 2#32
  let v640 : BitVec 32 := Scalar.muli v2 c2_i32_613
  let v641 : BitVec 32 := Scalar.addi c0_i32_614 v640
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_615 : BitVec 32 := 1#32
  let v642 : BitVec 32 := Scalar.muli v7 c1_i32_615
  let v643 : BitVec 32 := Scalar.addi v641 v642
  v643.toNat
def k0_dev22 (d0 : Dev nD) : Nat :=
  let c0_i32_647 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_646 : BitVec 32 := 2#32
  let v673 : BitVec 32 := Scalar.muli v6 c2_i32_646
  let v674 : BitVec 32 := Scalar.addi c0_i32_647 v673
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_648 : BitVec 32 := 1#32
  let v675 : BitVec 32 := Scalar.muli v5 c1_i32_648
  let v676 : BitVec 32 := Scalar.addi v674 v675
  v676.toNat
def k0_dev23 (d0 : Dev nD) : Nat :=
  let c0_i32_678 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_677 : BitVec 32 := 2#32
  let v706 : BitVec 32 := Scalar.muli v2 c2_i32_677
  let v707 : BitVec 32 := Scalar.addi c0_i32_678 v706
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_679 : BitVec 32 := 1#32
  let v708 : BitVec 32 := Scalar.muli v7 c1_i32_679
  let v709 : BitVec 32 := Scalar.addi v707 v708
  v709.toNat
def k0_dev24 (d0 : Dev nD) : Nat :=
  let c0_i32_711 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_710 : BitVec 32 := 2#32
  let v739 : BitVec 32 := Scalar.muli v6 c2_i32_710
  let v740 : BitVec 32 := Scalar.addi c0_i32_711 v739
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_712 : BitVec 32 := 1#32
  let v741 : BitVec 32 := Scalar.muli v5 c1_i32_712
  let v742 : BitVec 32 := Scalar.addi v740 v741
  v742.toNat
def k0_dev25 (d0 : Dev nD) : Nat :=
  let c0_i32_742 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_741 : BitVec 32 := 2#32
  let v772 : BitVec 32 := Scalar.muli v2 c2_i32_741
  let v773 : BitVec 32 := Scalar.addi c0_i32_742 v772
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_743 : BitVec 32 := 1#32
  let v774 : BitVec 32 := Scalar.muli v7 c1_i32_743
  let v775 : BitVec 32 := Scalar.addi v773 v774
  v775.toNat
def k0_dev26 (d0 : Dev nD) : Nat :=
  let c0_i32_775 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_774 : BitVec 32 := 2#32
  let v805 : BitVec 32 := Scalar.muli v6 c2_i32_774
  let v806 : BitVec 32 := Scalar.addi c0_i32_775 v805
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_776 : BitVec 32 := 1#32
  let v807 : BitVec 32 := Scalar.muli v5 c1_i32_776
  let v808 : BitVec 32 := Scalar.addi v806 v807
  v808.toNat
def k0_dev27 (d0 : Dev nD) : Nat :=
  let c0_i32_806 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_805 : BitVec 32 := 2#32
  let v838 : BitVec 32 := Scalar.muli v2 c2_i32_805
  let v839 : BitVec 32 := Scalar.addi c0_i32_806 v838
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_807 : BitVec 32 := 1#32
  let v840 : BitVec 32 := Scalar.muli v7 c1_i32_807
  let v841 : BitVec 32 := Scalar.addi v839 v840
  v841.toNat
def k0_dev28 (d0 : Dev nD) : Nat :=
  let c0_i32_839 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_838 : BitVec 32 := 2#32
  let v871 : BitVec 32 := Scalar.muli v6 c2_i32_838
  let v872 : BitVec 32 := Scalar.addi c0_i32_839 v871
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_840 : BitVec 32 := 1#32
  let v873 : BitVec 32 := Scalar.muli v5 c1_i32_840
  let v874 : BitVec 32 := Scalar.addi v872 v873
  v874.toNat
def k0_dev29 (d0 : Dev nD) : Nat :=
  let c0_i32_870 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_869 : BitVec 32 := 2#32
  let v904 : BitVec 32 := Scalar.muli v2 c2_i32_869
  let v905 : BitVec 32 := Scalar.addi c0_i32_870 v904
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_871 : BitVec 32 := 1#32
  let v906 : BitVec 32 := Scalar.muli v7 c1_i32_871
  let v907 : BitVec 32 := Scalar.addi v905 v906
  v907.toNat
def k0_dev30 (d0 : Dev nD) : Nat :=
  let c0_i32_903 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_902 : BitVec 32 := 2#32
  let v937 : BitVec 32 := Scalar.muli v6 c2_i32_902
  let v938 : BitVec 32 := Scalar.addi c0_i32_903 v937
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_904 : BitVec 32 := 1#32
  let v939 : BitVec 32 := Scalar.muli v5 c1_i32_904
  let v940 : BitVec 32 := Scalar.addi v938 v939
  v940.toNat
def k0_dev31 (d0 : Dev nD) : Nat :=
  let c0_i32_934 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_933 : BitVec 32 := 2#32
  let v970 : BitVec 32 := Scalar.muli v2 c2_i32_933
  let v971 : BitVec 32 := Scalar.addi c0_i32_934 v970
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_935 : BitVec 32 := 1#32
  let v972 : BitVec 32 := Scalar.muli v7 c1_i32_935
  let v973 : BitVec 32 := Scalar.addi v971 v972
  v973.toNat
def k0_dev32 (d0 : Dev nD) : Nat :=
  let c0_i32_967 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_966 : BitVec 32 := 2#32
  let v1003 : BitVec 32 := Scalar.muli v6 c2_i32_966
  let v1004 : BitVec 32 := Scalar.addi c0_i32_967 v1003
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_968 : BitVec 32 := 1#32
  let v1005 : BitVec 32 := Scalar.muli v5 c1_i32_968
  let v1006 : BitVec 32 := Scalar.addi v1004 v1005
  v1006.toNat
def k0_dev33 (d0 : Dev nD) : Nat :=
  let c0_i32_998 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_997 : BitVec 32 := 2#32
  let v1036 : BitVec 32 := Scalar.muli v2 c2_i32_997
  let v1037 : BitVec 32 := Scalar.addi c0_i32_998 v1036
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_999 : BitVec 32 := 1#32
  let v1038 : BitVec 32 := Scalar.muli v7 c1_i32_999
  let v1039 : BitVec 32 := Scalar.addi v1037 v1038
  v1039.toNat
def k0_dev34 (d0 : Dev nD) : Nat :=
  let c0_i32_1031 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1030 : BitVec 32 := 2#32
  let v1069 : BitVec 32 := Scalar.muli v6 c2_i32_1030
  let v1070 : BitVec 32 := Scalar.addi c0_i32_1031 v1069
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1032 : BitVec 32 := 1#32
  let v1071 : BitVec 32 := Scalar.muli v5 c1_i32_1032
  let v1072 : BitVec 32 := Scalar.addi v1070 v1071
  v1072.toNat
def k0_dev35 (d0 : Dev nD) : Nat :=
  let c0_i32_1062 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1061 : BitVec 32 := 2#32
  let v1102 : BitVec 32 := Scalar.muli v2 c2_i32_1061
  let v1103 : BitVec 32 := Scalar.addi c0_i32_1062 v1102
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1063 : BitVec 32 := 1#32
  let v1104 : BitVec 32 := Scalar.muli v7 c1_i32_1063
  let v1105 : BitVec 32 := Scalar.addi v1103 v1104
  v1105.toNat
def k0_dev36 (d0 : Dev nD) : Nat :=
  let c0_i32_1095 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1094 : BitVec 32 := 2#32
  let v1135 : BitVec 32 := Scalar.muli v6 c2_i32_1094
  let v1136 : BitVec 32 := Scalar.addi c0_i32_1095 v1135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1096 : BitVec 32 := 1#32
  let v1137 : BitVec 32 := Scalar.muli v5 c1_i32_1096
  let v1138 : BitVec 32 := Scalar.addi v1136 v1137
  v1138.toNat
def k0_dev37 (d0 : Dev nD) : Nat :=
  let c0_i32_1126 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1125 : BitVec 32 := 2#32
  let v1168 : BitVec 32 := Scalar.muli v2 c2_i32_1125
  let v1169 : BitVec 32 := Scalar.addi c0_i32_1126 v1168
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1127 : BitVec 32 := 1#32
  let v1170 : BitVec 32 := Scalar.muli v7 c1_i32_1127
  let v1171 : BitVec 32 := Scalar.addi v1169 v1170
  v1171.toNat
def k0_dev38 (d0 : Dev nD) : Nat :=
  let c0_i32_1159 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1158 : BitVec 32 := 2#32
  let v1201 : BitVec 32 := Scalar.muli v6 c2_i32_1158
  let v1202 : BitVec 32 := Scalar.addi c0_i32_1159 v1201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1160 : BitVec 32 := 1#32
  let v1203 : BitVec 32 := Scalar.muli v5 c1_i32_1160
  let v1204 : BitVec 32 := Scalar.addi v1202 v1203
  v1204.toNat
def k0_dev39 (d0 : Dev nD) : Nat :=
  let c0_i32_1190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1189 : BitVec 32 := 2#32
  let v1234 : BitVec 32 := Scalar.muli v2 c2_i32_1189
  let v1235 : BitVec 32 := Scalar.addi c0_i32_1190 v1234
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1191 : BitVec 32 := 1#32
  let v1236 : BitVec 32 := Scalar.muli v7 c1_i32_1191
  let v1237 : BitVec 32 := Scalar.addi v1235 v1236
  v1237.toNat
def k0_dev40 (d0 : Dev nD) : Nat :=
  let c0_i32_1223 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1222 : BitVec 32 := 2#32
  let v1267 : BitVec 32 := Scalar.muli v6 c2_i32_1222
  let v1268 : BitVec 32 := Scalar.addi c0_i32_1223 v1267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1224 : BitVec 32 := 1#32
  let v1269 : BitVec 32 := Scalar.muli v5 c1_i32_1224
  let v1270 : BitVec 32 := Scalar.addi v1268 v1269
  v1270.toNat
def k0_dev41 (d0 : Dev nD) : Nat :=
  let c0_i32_1254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1253 : BitVec 32 := 2#32
  let v1300 : BitVec 32 := Scalar.muli v2 c2_i32_1253
  let v1301 : BitVec 32 := Scalar.addi c0_i32_1254 v1300
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1255 : BitVec 32 := 1#32
  let v1302 : BitVec 32 := Scalar.muli v7 c1_i32_1255
  let v1303 : BitVec 32 := Scalar.addi v1301 v1302
  v1303.toNat
def k0_dev42 (d0 : Dev nD) : Nat :=
  let c0_i32_1287 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1286 : BitVec 32 := 2#32
  let v1333 : BitVec 32 := Scalar.muli v6 c2_i32_1286
  let v1334 : BitVec 32 := Scalar.addi c0_i32_1287 v1333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1288 : BitVec 32 := 1#32
  let v1335 : BitVec 32 := Scalar.muli v5 c1_i32_1288
  let v1336 : BitVec 32 := Scalar.addi v1334 v1335
  v1336.toNat
def k0_dev43 (d0 : Dev nD) : Nat :=
  let c0_i32_1318 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1317 : BitVec 32 := 2#32
  let v1366 : BitVec 32 := Scalar.muli v2 c2_i32_1317
  let v1367 : BitVec 32 := Scalar.addi c0_i32_1318 v1366
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1319 : BitVec 32 := 1#32
  let v1368 : BitVec 32 := Scalar.muli v7 c1_i32_1319
  let v1369 : BitVec 32 := Scalar.addi v1367 v1368
  v1369.toNat
def k0_dev44 (d0 : Dev nD) : Nat :=
  let c0_i32_1351 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1350 : BitVec 32 := 2#32
  let v1399 : BitVec 32 := Scalar.muli v6 c2_i32_1350
  let v1400 : BitVec 32 := Scalar.addi c0_i32_1351 v1399
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1352 : BitVec 32 := 1#32
  let v1401 : BitVec 32 := Scalar.muli v5 c1_i32_1352
  let v1402 : BitVec 32 := Scalar.addi v1400 v1401
  v1402.toNat
def k0_dev45 (d0 : Dev nD) : Nat :=
  let c0_i32_1382 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1381 : BitVec 32 := 2#32
  let v1432 : BitVec 32 := Scalar.muli v2 c2_i32_1381
  let v1433 : BitVec 32 := Scalar.addi c0_i32_1382 v1432
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1383 : BitVec 32 := 1#32
  let v1434 : BitVec 32 := Scalar.muli v7 c1_i32_1383
  let v1435 : BitVec 32 := Scalar.addi v1433 v1434
  v1435.toNat
def k0_dev46 (d0 : Dev nD) : Nat :=
  let c0_i32_1415 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1414 : BitVec 32 := 2#32
  let v1465 : BitVec 32 := Scalar.muli v6 c2_i32_1414
  let v1466 : BitVec 32 := Scalar.addi c0_i32_1415 v1465
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1416 : BitVec 32 := 1#32
  let v1467 : BitVec 32 := Scalar.muli v5 c1_i32_1416
  let v1468 : BitVec 32 := Scalar.addi v1466 v1467
  v1468.toNat
def k0_dev47 (d0 : Dev nD) : Nat :=
  let c0_i32_1446 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1445 : BitVec 32 := 2#32
  let v1498 : BitVec 32 := Scalar.muli v2 c2_i32_1445
  let v1499 : BitVec 32 := Scalar.addi c0_i32_1446 v1498
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1447 : BitVec 32 := 1#32
  let v1500 : BitVec 32 := Scalar.muli v7 c1_i32_1447
  let v1501 : BitVec 32 := Scalar.addi v1499 v1500
  v1501.toNat
def k0_dev48 (d0 : Dev nD) : Nat :=
  let c0_i32_1479 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1478 : BitVec 32 := 2#32
  let v1531 : BitVec 32 := Scalar.muli v6 c2_i32_1478
  let v1532 : BitVec 32 := Scalar.addi c0_i32_1479 v1531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1480 : BitVec 32 := 1#32
  let v1533 : BitVec 32 := Scalar.muli v5 c1_i32_1480
  let v1534 : BitVec 32 := Scalar.addi v1532 v1533
  v1534.toNat
def k0_dev49 (d0 : Dev nD) : Nat :=
  let c0_i32_1510 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1509 : BitVec 32 := 2#32
  let v1564 : BitVec 32 := Scalar.muli v2 c2_i32_1509
  let v1565 : BitVec 32 := Scalar.addi c0_i32_1510 v1564
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1511 : BitVec 32 := 1#32
  let v1566 : BitVec 32 := Scalar.muli v7 c1_i32_1511
  let v1567 : BitVec 32 := Scalar.addi v1565 v1566
  v1567.toNat
def k0_dev50 (d0 : Dev nD) : Nat :=
  let c0_i32_1543 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1542 : BitVec 32 := 2#32
  let v1597 : BitVec 32 := Scalar.muli v6 c2_i32_1542
  let v1598 : BitVec 32 := Scalar.addi c0_i32_1543 v1597
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1544 : BitVec 32 := 1#32
  let v1599 : BitVec 32 := Scalar.muli v5 c1_i32_1544
  let v1600 : BitVec 32 := Scalar.addi v1598 v1599
  v1600.toNat
def k0_dev51 (d0 : Dev nD) : Nat :=
  let c0_i32_1574 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1573 : BitVec 32 := 2#32
  let v1630 : BitVec 32 := Scalar.muli v2 c2_i32_1573
  let v1631 : BitVec 32 := Scalar.addi c0_i32_1574 v1630
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1575 : BitVec 32 := 1#32
  let v1632 : BitVec 32 := Scalar.muli v7 c1_i32_1575
  let v1633 : BitVec 32 := Scalar.addi v1631 v1632
  v1633.toNat
def k0_dev52 (d0 : Dev nD) : Nat :=
  let c0_i32_1607 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1606 : BitVec 32 := 2#32
  let v1663 : BitVec 32 := Scalar.muli v6 c2_i32_1606
  let v1664 : BitVec 32 := Scalar.addi c0_i32_1607 v1663
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1608 : BitVec 32 := 1#32
  let v1665 : BitVec 32 := Scalar.muli v5 c1_i32_1608
  let v1666 : BitVec 32 := Scalar.addi v1664 v1665
  v1666.toNat
def k0_dev53 (d0 : Dev nD) : Nat :=
  let c0_i32_1638 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1637 : BitVec 32 := 2#32
  let v1696 : BitVec 32 := Scalar.muli v2 c2_i32_1637
  let v1697 : BitVec 32 := Scalar.addi c0_i32_1638 v1696
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1639 : BitVec 32 := 1#32
  let v1698 : BitVec 32 := Scalar.muli v7 c1_i32_1639
  let v1699 : BitVec 32 := Scalar.addi v1697 v1698
  v1699.toNat
def k0_dev54 (d0 : Dev nD) : Nat :=
  let c0_i32_1671 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1670 : BitVec 32 := 2#32
  let v1729 : BitVec 32 := Scalar.muli v6 c2_i32_1670
  let v1730 : BitVec 32 := Scalar.addi c0_i32_1671 v1729
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1672 : BitVec 32 := 1#32
  let v1731 : BitVec 32 := Scalar.muli v5 c1_i32_1672
  let v1732 : BitVec 32 := Scalar.addi v1730 v1731
  v1732.toNat
def k0_dev55 (d0 : Dev nD) : Nat :=
  let c0_i32_1702 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1701 : BitVec 32 := 2#32
  let v1762 : BitVec 32 := Scalar.muli v2 c2_i32_1701
  let v1763 : BitVec 32 := Scalar.addi c0_i32_1702 v1762
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1703 : BitVec 32 := 1#32
  let v1764 : BitVec 32 := Scalar.muli v7 c1_i32_1703
  let v1765 : BitVec 32 := Scalar.addi v1763 v1764
  v1765.toNat
def k0_dev56 (d0 : Dev nD) : Nat :=
  let c0_i32_1735 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1734 : BitVec 32 := 2#32
  let v1795 : BitVec 32 := Scalar.muli v6 c2_i32_1734
  let v1796 : BitVec 32 := Scalar.addi c0_i32_1735 v1795
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1736 : BitVec 32 := 1#32
  let v1797 : BitVec 32 := Scalar.muli v5 c1_i32_1736
  let v1798 : BitVec 32 := Scalar.addi v1796 v1797
  v1798.toNat
def k0_dev57 (d0 : Dev nD) : Nat :=
  let c0_i32_1766 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1765 : BitVec 32 := 2#32
  let v1828 : BitVec 32 := Scalar.muli v2 c2_i32_1765
  let v1829 : BitVec 32 := Scalar.addi c0_i32_1766 v1828
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1767 : BitVec 32 := 1#32
  let v1830 : BitVec 32 := Scalar.muli v7 c1_i32_1767
  let v1831 : BitVec 32 := Scalar.addi v1829 v1830
  v1831.toNat
def k0_dev58 (d0 : Dev nD) : Nat :=
  let c0_i32_1799 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1798 : BitVec 32 := 2#32
  let v1861 : BitVec 32 := Scalar.muli v6 c2_i32_1798
  let v1862 : BitVec 32 := Scalar.addi c0_i32_1799 v1861
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1800 : BitVec 32 := 1#32
  let v1863 : BitVec 32 := Scalar.muli v5 c1_i32_1800
  let v1864 : BitVec 32 := Scalar.addi v1862 v1863
  v1864.toNat
def k0_dev59 (d0 : Dev nD) : Nat :=
  let c0_i32_1830 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1829 : BitVec 32 := 2#32
  let v1894 : BitVec 32 := Scalar.muli v2 c2_i32_1829
  let v1895 : BitVec 32 := Scalar.addi c0_i32_1830 v1894
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1831 : BitVec 32 := 1#32
  let v1896 : BitVec 32 := Scalar.muli v7 c1_i32_1831
  let v1897 : BitVec 32 := Scalar.addi v1895 v1896
  v1897.toNat
def k0_dev60 (d0 : Dev nD) : Nat :=
  let c0_i32_1863 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1862 : BitVec 32 := 2#32
  let v1927 : BitVec 32 := Scalar.muli v6 c2_i32_1862
  let v1928 : BitVec 32 := Scalar.addi c0_i32_1863 v1927
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1864 : BitVec 32 := 1#32
  let v1929 : BitVec 32 := Scalar.muli v5 c1_i32_1864
  let v1930 : BitVec 32 := Scalar.addi v1928 v1929
  v1930.toNat
def k0_dev61 (d0 : Dev nD) : Nat :=
  let c0_i32_1894 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1893 : BitVec 32 := 2#32
  let v1960 : BitVec 32 := Scalar.muli v2 c2_i32_1893
  let v1961 : BitVec 32 := Scalar.addi c0_i32_1894 v1960
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1895 : BitVec 32 := 1#32
  let v1962 : BitVec 32 := Scalar.muli v7 c1_i32_1895
  let v1963 : BitVec 32 := Scalar.addi v1961 v1962
  v1963.toNat
def k0_dev62 (d0 : Dev nD) : Nat :=
  let c0_i32_1927 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1926 : BitVec 32 := 2#32
  let v1993 : BitVec 32 := Scalar.muli v6 c2_i32_1926
  let v1994 : BitVec 32 := Scalar.addi c0_i32_1927 v1993
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1928 : BitVec 32 := 1#32
  let v1995 : BitVec 32 := Scalar.muli v5 c1_i32_1928
  let v1996 : BitVec 32 := Scalar.addi v1994 v1995
  v1996.toNat
def k0_dev63 (d0 : Dev nD) : Nat :=
  let c0_i32_1958 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1957 : BitVec 32 := 2#32
  let v2026 : BitVec 32 := Scalar.muli v2 c2_i32_1957
  let v2027 : BitVec 32 := Scalar.addi c0_i32_1958 v2026
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1959 : BitVec 32 := 1#32
  let v2028 : BitVec 32 := Scalar.muli v7 c1_i32_1959
  let v2029 : BitVec 32 := Scalar.addi v2027 v2028
  v2029.toNat
def k0_dev64 (d0 : Dev nD) : Nat :=
  let c0_i32_1991 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1990 : BitVec 32 := 2#32
  let v2059 : BitVec 32 := Scalar.muli v6 c2_i32_1990
  let v2060 : BitVec 32 := Scalar.addi c0_i32_1991 v2059
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1992 : BitVec 32 := 1#32
  let v2061 : BitVec 32 := Scalar.muli v5 c1_i32_1992
  let v2062 : BitVec 32 := Scalar.addi v2060 v2061
  v2062.toNat
def k0_dev65 (d0 : Dev nD) : Nat :=
  let c0_i32_2022 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2021 : BitVec 32 := 2#32
  let v2092 : BitVec 32 := Scalar.muli v2 c2_i32_2021
  let v2093 : BitVec 32 := Scalar.addi c0_i32_2022 v2092
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2023 : BitVec 32 := 1#32
  let v2094 : BitVec 32 := Scalar.muli v7 c1_i32_2023
  let v2095 : BitVec 32 := Scalar.addi v2093 v2094
  v2095.toNat
def k0_dev66 (d0 : Dev nD) : Nat :=
  let c0_i32_2055 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2054 : BitVec 32 := 2#32
  let v2125 : BitVec 32 := Scalar.muli v6 c2_i32_2054
  let v2126 : BitVec 32 := Scalar.addi c0_i32_2055 v2125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2056 : BitVec 32 := 1#32
  let v2127 : BitVec 32 := Scalar.muli v5 c1_i32_2056
  let v2128 : BitVec 32 := Scalar.addi v2126 v2127
  v2128.toNat
def k0_dev67 (d0 : Dev nD) : Nat :=
  let c0_i32_2086 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2085 : BitVec 32 := 2#32
  let v2158 : BitVec 32 := Scalar.muli v2 c2_i32_2085
  let v2159 : BitVec 32 := Scalar.addi c0_i32_2086 v2158
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2087 : BitVec 32 := 1#32
  let v2160 : BitVec 32 := Scalar.muli v7 c1_i32_2087
  let v2161 : BitVec 32 := Scalar.addi v2159 v2160
  v2161.toNat
def k0_dev68 (d0 : Dev nD) : Nat :=
  let c0_i32_2119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2118 : BitVec 32 := 2#32
  let v2191 : BitVec 32 := Scalar.muli v6 c2_i32_2118
  let v2192 : BitVec 32 := Scalar.addi c0_i32_2119 v2191
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2120 : BitVec 32 := 1#32
  let v2193 : BitVec 32 := Scalar.muli v5 c1_i32_2120
  let v2194 : BitVec 32 := Scalar.addi v2192 v2193
  v2194.toNat
def k0_dev69 (d0 : Dev nD) : Nat :=
  let c0_i32_2150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2149 : BitVec 32 := 2#32
  let v2224 : BitVec 32 := Scalar.muli v2 c2_i32_2149
  let v2225 : BitVec 32 := Scalar.addi c0_i32_2150 v2224
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2151 : BitVec 32 := 1#32
  let v2226 : BitVec 32 := Scalar.muli v7 c1_i32_2151
  let v2227 : BitVec 32 := Scalar.addi v2225 v2226
  v2227.toNat
def k0_dev70 (d0 : Dev nD) : Nat :=
  let c0_i32_2183 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2182 : BitVec 32 := 2#32
  let v2257 : BitVec 32 := Scalar.muli v6 c2_i32_2182
  let v2258 : BitVec 32 := Scalar.addi c0_i32_2183 v2257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2184 : BitVec 32 := 1#32
  let v2259 : BitVec 32 := Scalar.muli v5 c1_i32_2184
  let v2260 : BitVec 32 := Scalar.addi v2258 v2259
  v2260.toNat
def k0_dev71 (d0 : Dev nD) : Nat :=
  let c0_i32_2214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2213 : BitVec 32 := 2#32
  let v2290 : BitVec 32 := Scalar.muli v2 c2_i32_2213
  let v2291 : BitVec 32 := Scalar.addi c0_i32_2214 v2290
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2215 : BitVec 32 := 1#32
  let v2292 : BitVec 32 := Scalar.muli v7 c1_i32_2215
  let v2293 : BitVec 32 := Scalar.addi v2291 v2292
  v2293.toNat
def k0_dev72 (d0 : Dev nD) : Nat :=
  let c0_i32_2247 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2246 : BitVec 32 := 2#32
  let v2323 : BitVec 32 := Scalar.muli v6 c2_i32_2246
  let v2324 : BitVec 32 := Scalar.addi c0_i32_2247 v2323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2248 : BitVec 32 := 1#32
  let v2325 : BitVec 32 := Scalar.muli v5 c1_i32_2248
  let v2326 : BitVec 32 := Scalar.addi v2324 v2325
  v2326.toNat
def k0_dev73 (d0 : Dev nD) : Nat :=
  let c0_i32_2278 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2277 : BitVec 32 := 2#32
  let v2356 : BitVec 32 := Scalar.muli v2 c2_i32_2277
  let v2357 : BitVec 32 := Scalar.addi c0_i32_2278 v2356
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2279 : BitVec 32 := 1#32
  let v2358 : BitVec 32 := Scalar.muli v7 c1_i32_2279
  let v2359 : BitVec 32 := Scalar.addi v2357 v2358
  v2359.toNat
def k0_dev74 (d0 : Dev nD) : Nat :=
  let c0_i32_2311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2310 : BitVec 32 := 2#32
  let v2389 : BitVec 32 := Scalar.muli v6 c2_i32_2310
  let v2390 : BitVec 32 := Scalar.addi c0_i32_2311 v2389
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2312 : BitVec 32 := 1#32
  let v2391 : BitVec 32 := Scalar.muli v5 c1_i32_2312
  let v2392 : BitVec 32 := Scalar.addi v2390 v2391
  v2392.toNat
def k0_dev75 (d0 : Dev nD) : Nat :=
  let c0_i32_2342 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2341 : BitVec 32 := 2#32
  let v2422 : BitVec 32 := Scalar.muli v2 c2_i32_2341
  let v2423 : BitVec 32 := Scalar.addi c0_i32_2342 v2422
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2343 : BitVec 32 := 1#32
  let v2424 : BitVec 32 := Scalar.muli v7 c1_i32_2343
  let v2425 : BitVec 32 := Scalar.addi v2423 v2424
  v2425.toNat
def k0_dev76 (d0 : Dev nD) : Nat :=
  let c0_i32_2375 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2374 : BitVec 32 := 2#32
  let v2455 : BitVec 32 := Scalar.muli v6 c2_i32_2374
  let v2456 : BitVec 32 := Scalar.addi c0_i32_2375 v2455
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2376 : BitVec 32 := 1#32
  let v2457 : BitVec 32 := Scalar.muli v5 c1_i32_2376
  let v2458 : BitVec 32 := Scalar.addi v2456 v2457
  v2458.toNat
def k0_dev77 (d0 : Dev nD) : Nat :=
  let c0_i32_2406 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2405 : BitVec 32 := 2#32
  let v2488 : BitVec 32 := Scalar.muli v2 c2_i32_2405
  let v2489 : BitVec 32 := Scalar.addi c0_i32_2406 v2488
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2407 : BitVec 32 := 1#32
  let v2490 : BitVec 32 := Scalar.muli v7 c1_i32_2407
  let v2491 : BitVec 32 := Scalar.addi v2489 v2490
  v2491.toNat
def k0_dev78 (d0 : Dev nD) : Nat :=
  let c0_i32_2439 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2438 : BitVec 32 := 2#32
  let v2521 : BitVec 32 := Scalar.muli v6 c2_i32_2438
  let v2522 : BitVec 32 := Scalar.addi c0_i32_2439 v2521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2440 : BitVec 32 := 1#32
  let v2523 : BitVec 32 := Scalar.muli v5 c1_i32_2440
  let v2524 : BitVec 32 := Scalar.addi v2522 v2523
  v2524.toNat
def k0_dev79 (d0 : Dev nD) : Nat :=
  let c0_i32_2470 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2469 : BitVec 32 := 2#32
  let v2554 : BitVec 32 := Scalar.muli v2 c2_i32_2469
  let v2555 : BitVec 32 := Scalar.addi c0_i32_2470 v2554
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2471 : BitVec 32 := 1#32
  let v2556 : BitVec 32 := Scalar.muli v7 c1_i32_2471
  let v2557 : BitVec 32 := Scalar.addi v2555 v2556
  v2557.toNat
def k0_dev80 (d0 : Dev nD) : Nat :=
  let c0_i32_2503 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2502 : BitVec 32 := 2#32
  let v2587 : BitVec 32 := Scalar.muli v6 c2_i32_2502
  let v2588 : BitVec 32 := Scalar.addi c0_i32_2503 v2587
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2504 : BitVec 32 := 1#32
  let v2589 : BitVec 32 := Scalar.muli v5 c1_i32_2504
  let v2590 : BitVec 32 := Scalar.addi v2588 v2589
  v2590.toNat
def k0_dev81 (d0 : Dev nD) : Nat :=
  let c0_i32_2534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2533 : BitVec 32 := 2#32
  let v2620 : BitVec 32 := Scalar.muli v2 c2_i32_2533
  let v2621 : BitVec 32 := Scalar.addi c0_i32_2534 v2620
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2535 : BitVec 32 := 1#32
  let v2622 : BitVec 32 := Scalar.muli v7 c1_i32_2535
  let v2623 : BitVec 32 := Scalar.addi v2621 v2622
  v2623.toNat
def k0_dev82 (d0 : Dev nD) : Nat :=
  let c0_i32_2567 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2566 : BitVec 32 := 2#32
  let v2653 : BitVec 32 := Scalar.muli v6 c2_i32_2566
  let v2654 : BitVec 32 := Scalar.addi c0_i32_2567 v2653
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2568 : BitVec 32 := 1#32
  let v2655 : BitVec 32 := Scalar.muli v5 c1_i32_2568
  let v2656 : BitVec 32 := Scalar.addi v2654 v2655
  v2656.toNat
def k0_dev83 (d0 : Dev nD) : Nat :=
  let c0_i32_2598 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2597 : BitVec 32 := 2#32
  let v2686 : BitVec 32 := Scalar.muli v2 c2_i32_2597
  let v2687 : BitVec 32 := Scalar.addi c0_i32_2598 v2686
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2599 : BitVec 32 := 1#32
  let v2688 : BitVec 32 := Scalar.muli v7 c1_i32_2599
  let v2689 : BitVec 32 := Scalar.addi v2687 v2688
  v2689.toNat
def k0_dev84 (d0 : Dev nD) : Nat :=
  let c0_i32_2631 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2630 : BitVec 32 := 2#32
  let v2719 : BitVec 32 := Scalar.muli v6 c2_i32_2630
  let v2720 : BitVec 32 := Scalar.addi c0_i32_2631 v2719
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2632 : BitVec 32 := 1#32
  let v2721 : BitVec 32 := Scalar.muli v5 c1_i32_2632
  let v2722 : BitVec 32 := Scalar.addi v2720 v2721
  v2722.toNat
def k0_dev85 (d0 : Dev nD) : Nat :=
  let c0_i32_2662 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2661 : BitVec 32 := 2#32
  let v2752 : BitVec 32 := Scalar.muli v2 c2_i32_2661
  let v2753 : BitVec 32 := Scalar.addi c0_i32_2662 v2752
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2663 : BitVec 32 := 1#32
  let v2754 : BitVec 32 := Scalar.muli v7 c1_i32_2663
  let v2755 : BitVec 32 := Scalar.addi v2753 v2754
  v2755.toNat
def k0_dev86 (d0 : Dev nD) : Nat :=
  let c0_i32_2695 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2694 : BitVec 32 := 2#32
  let v2785 : BitVec 32 := Scalar.muli v6 c2_i32_2694
  let v2786 : BitVec 32 := Scalar.addi c0_i32_2695 v2785
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2696 : BitVec 32 := 1#32
  let v2787 : BitVec 32 := Scalar.muli v5 c1_i32_2696
  let v2788 : BitVec 32 := Scalar.addi v2786 v2787
  v2788.toNat
def k0_dev87 (d0 : Dev nD) : Nat :=
  let c0_i32_2726 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2725 : BitVec 32 := 2#32
  let v2818 : BitVec 32 := Scalar.muli v2 c2_i32_2725
  let v2819 : BitVec 32 := Scalar.addi c0_i32_2726 v2818
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2727 : BitVec 32 := 1#32
  let v2820 : BitVec 32 := Scalar.muli v7 c1_i32_2727
  let v2821 : BitVec 32 := Scalar.addi v2819 v2820
  v2821.toNat
def k0_dev88 (d0 : Dev nD) : Nat :=
  let c0_i32_2759 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2758 : BitVec 32 := 2#32
  let v2851 : BitVec 32 := Scalar.muli v6 c2_i32_2758
  let v2852 : BitVec 32 := Scalar.addi c0_i32_2759 v2851
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2760 : BitVec 32 := 1#32
  let v2853 : BitVec 32 := Scalar.muli v5 c1_i32_2760
  let v2854 : BitVec 32 := Scalar.addi v2852 v2853
  v2854.toNat
def k0_dev89 (d0 : Dev nD) : Nat :=
  let c0_i32_2790 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2789 : BitVec 32 := 2#32
  let v2884 : BitVec 32 := Scalar.muli v2 c2_i32_2789
  let v2885 : BitVec 32 := Scalar.addi c0_i32_2790 v2884
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2791 : BitVec 32 := 1#32
  let v2886 : BitVec 32 := Scalar.muli v7 c1_i32_2791
  let v2887 : BitVec 32 := Scalar.addi v2885 v2886
  v2887.toNat
def k0_dev90 (d0 : Dev nD) : Nat :=
  let c0_i32_2823 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2822 : BitVec 32 := 2#32
  let v2917 : BitVec 32 := Scalar.muli v6 c2_i32_2822
  let v2918 : BitVec 32 := Scalar.addi c0_i32_2823 v2917
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2824 : BitVec 32 := 1#32
  let v2919 : BitVec 32 := Scalar.muli v5 c1_i32_2824
  let v2920 : BitVec 32 := Scalar.addi v2918 v2919
  v2920.toNat
def k0_dev91 (d0 : Dev nD) : Nat :=
  let c0_i32_2854 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2853 : BitVec 32 := 2#32
  let v2950 : BitVec 32 := Scalar.muli v2 c2_i32_2853
  let v2951 : BitVec 32 := Scalar.addi c0_i32_2854 v2950
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2855 : BitVec 32 := 1#32
  let v2952 : BitVec 32 := Scalar.muli v7 c1_i32_2855
  let v2953 : BitVec 32 := Scalar.addi v2951 v2952
  v2953.toNat
def k0_dev92 (d0 : Dev nD) : Nat :=
  let c0_i32_2887 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2886 : BitVec 32 := 2#32
  let v2983 : BitVec 32 := Scalar.muli v6 c2_i32_2886
  let v2984 : BitVec 32 := Scalar.addi c0_i32_2887 v2983
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2888 : BitVec 32 := 1#32
  let v2985 : BitVec 32 := Scalar.muli v5 c1_i32_2888
  let v2986 : BitVec 32 := Scalar.addi v2984 v2985
  v2986.toNat
def k0_dev93 (d0 : Dev nD) : Nat :=
  let c0_i32_2918 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2917 : BitVec 32 := 2#32
  let v3016 : BitVec 32 := Scalar.muli v2 c2_i32_2917
  let v3017 : BitVec 32 := Scalar.addi c0_i32_2918 v3016
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2919 : BitVec 32 := 1#32
  let v3018 : BitVec 32 := Scalar.muli v7 c1_i32_2919
  let v3019 : BitVec 32 := Scalar.addi v3017 v3018
  v3019.toNat
def k0_dev94 (d0 : Dev nD) : Nat :=
  let c0_i32_2951 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2950 : BitVec 32 := 2#32
  let v3049 : BitVec 32 := Scalar.muli v6 c2_i32_2950
  let v3050 : BitVec 32 := Scalar.addi c0_i32_2951 v3049
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2952 : BitVec 32 := 1#32
  let v3051 : BitVec 32 := Scalar.muli v5 c1_i32_2952
  let v3052 : BitVec 32 := Scalar.addi v3050 v3051
  v3052.toNat
def k0_dev95 (d0 : Dev nD) : Nat :=
  let c0_i32_2982 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2981 : BitVec 32 := 2#32
  let v3082 : BitVec 32 := Scalar.muli v2 c2_i32_2981
  let v3083 : BitVec 32 := Scalar.addi c0_i32_2982 v3082
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2983 : BitVec 32 := 1#32
  let v3084 : BitVec 32 := Scalar.muli v7 c1_i32_2983
  let v3085 : BitVec 32 := Scalar.addi v3083 v3084
  v3085.toNat
def k0_dev96 (d0 : Dev nD) : Nat :=
  let c0_i32_3015 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3014 : BitVec 32 := 2#32
  let v3115 : BitVec 32 := Scalar.muli v6 c2_i32_3014
  let v3116 : BitVec 32 := Scalar.addi c0_i32_3015 v3115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3016 : BitVec 32 := 1#32
  let v3117 : BitVec 32 := Scalar.muli v5 c1_i32_3016
  let v3118 : BitVec 32 := Scalar.addi v3116 v3117
  v3118.toNat
def k0_dev97 (d0 : Dev nD) : Nat :=
  let c0_i32_3046 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3045 : BitVec 32 := 2#32
  let v3148 : BitVec 32 := Scalar.muli v2 c2_i32_3045
  let v3149 : BitVec 32 := Scalar.addi c0_i32_3046 v3148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3047 : BitVec 32 := 1#32
  let v3150 : BitVec 32 := Scalar.muli v7 c1_i32_3047
  let v3151 : BitVec 32 := Scalar.addi v3149 v3150
  v3151.toNat
def k0_dev98 (d0 : Dev nD) : Nat :=
  let c0_i32_3079 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3078 : BitVec 32 := 2#32
  let v3181 : BitVec 32 := Scalar.muli v6 c2_i32_3078
  let v3182 : BitVec 32 := Scalar.addi c0_i32_3079 v3181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3080 : BitVec 32 := 1#32
  let v3183 : BitVec 32 := Scalar.muli v5 c1_i32_3080
  let v3184 : BitVec 32 := Scalar.addi v3182 v3183
  v3184.toNat
def k0_dev99 (d0 : Dev nD) : Nat :=
  let c0_i32_3110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3109 : BitVec 32 := 2#32
  let v3214 : BitVec 32 := Scalar.muli v2 c2_i32_3109
  let v3215 : BitVec 32 := Scalar.addi c0_i32_3110 v3214
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3111 : BitVec 32 := 1#32
  let v3216 : BitVec 32 := Scalar.muli v7 c1_i32_3111
  let v3217 : BitVec 32 := Scalar.addi v3215 v3216
  v3217.toNat
def k0_dev100 (d0 : Dev nD) : Nat :=
  let c0_i32_3143 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3142 : BitVec 32 := 2#32
  let v3247 : BitVec 32 := Scalar.muli v6 c2_i32_3142
  let v3248 : BitVec 32 := Scalar.addi c0_i32_3143 v3247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3144 : BitVec 32 := 1#32
  let v3249 : BitVec 32 := Scalar.muli v5 c1_i32_3144
  let v3250 : BitVec 32 := Scalar.addi v3248 v3249
  v3250.toNat
def k0_dev101 (d0 : Dev nD) : Nat :=
  let c0_i32_3174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3173 : BitVec 32 := 2#32
  let v3280 : BitVec 32 := Scalar.muli v2 c2_i32_3173
  let v3281 : BitVec 32 := Scalar.addi c0_i32_3174 v3280
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3175 : BitVec 32 := 1#32
  let v3282 : BitVec 32 := Scalar.muli v7 c1_i32_3175
  let v3283 : BitVec 32 := Scalar.addi v3281 v3282
  v3283.toNat
def k0_dev102 (d0 : Dev nD) : Nat :=
  let c0_i32_3207 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3206 : BitVec 32 := 2#32
  let v3313 : BitVec 32 := Scalar.muli v6 c2_i32_3206
  let v3314 : BitVec 32 := Scalar.addi c0_i32_3207 v3313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3208 : BitVec 32 := 1#32
  let v3315 : BitVec 32 := Scalar.muli v5 c1_i32_3208
  let v3316 : BitVec 32 := Scalar.addi v3314 v3315
  v3316.toNat
def k0_dev103 (d0 : Dev nD) : Nat :=
  let c0_i32_3238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3237 : BitVec 32 := 2#32
  let v3346 : BitVec 32 := Scalar.muli v2 c2_i32_3237
  let v3347 : BitVec 32 := Scalar.addi c0_i32_3238 v3346
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3239 : BitVec 32 := 1#32
  let v3348 : BitVec 32 := Scalar.muli v7 c1_i32_3239
  let v3349 : BitVec 32 := Scalar.addi v3347 v3348
  v3349.toNat
def k0_dev104 (d0 : Dev nD) : Nat :=
  let c0_i32_3271 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3270 : BitVec 32 := 2#32
  let v3379 : BitVec 32 := Scalar.muli v6 c2_i32_3270
  let v3380 : BitVec 32 := Scalar.addi c0_i32_3271 v3379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3272 : BitVec 32 := 1#32
  let v3381 : BitVec 32 := Scalar.muli v5 c1_i32_3272
  let v3382 : BitVec 32 := Scalar.addi v3380 v3381
  v3382.toNat
def k0_dev105 (d0 : Dev nD) : Nat :=
  let c0_i32_3302 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3301 : BitVec 32 := 2#32
  let v3412 : BitVec 32 := Scalar.muli v2 c2_i32_3301
  let v3413 : BitVec 32 := Scalar.addi c0_i32_3302 v3412
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3303 : BitVec 32 := 1#32
  let v3414 : BitVec 32 := Scalar.muli v7 c1_i32_3303
  let v3415 : BitVec 32 := Scalar.addi v3413 v3414
  v3415.toNat
def k0_dev106 (d0 : Dev nD) : Nat :=
  let c0_i32_3335 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3334 : BitVec 32 := 2#32
  let v3445 : BitVec 32 := Scalar.muli v6 c2_i32_3334
  let v3446 : BitVec 32 := Scalar.addi c0_i32_3335 v3445
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3336 : BitVec 32 := 1#32
  let v3447 : BitVec 32 := Scalar.muli v5 c1_i32_3336
  let v3448 : BitVec 32 := Scalar.addi v3446 v3447
  v3448.toNat
def k0_dev107 (d0 : Dev nD) : Nat :=
  let c0_i32_3366 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3365 : BitVec 32 := 2#32
  let v3478 : BitVec 32 := Scalar.muli v2 c2_i32_3365
  let v3479 : BitVec 32 := Scalar.addi c0_i32_3366 v3478
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3367 : BitVec 32 := 1#32
  let v3480 : BitVec 32 := Scalar.muli v7 c1_i32_3367
  let v3481 : BitVec 32 := Scalar.addi v3479 v3480
  v3481.toNat
def k0_dev108 (d0 : Dev nD) : Nat :=
  let c0_i32_3399 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3398 : BitVec 32 := 2#32
  let v3511 : BitVec 32 := Scalar.muli v6 c2_i32_3398
  let v3512 : BitVec 32 := Scalar.addi c0_i32_3399 v3511
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3400 : BitVec 32 := 1#32
  let v3513 : BitVec 32 := Scalar.muli v5 c1_i32_3400
  let v3514 : BitVec 32 := Scalar.addi v3512 v3513
  v3514.toNat
def k0_dev109 (d0 : Dev nD) : Nat :=
  let c0_i32_3430 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3429 : BitVec 32 := 2#32
  let v3544 : BitVec 32 := Scalar.muli v2 c2_i32_3429
  let v3545 : BitVec 32 := Scalar.addi c0_i32_3430 v3544
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3431 : BitVec 32 := 1#32
  let v3546 : BitVec 32 := Scalar.muli v7 c1_i32_3431
  let v3547 : BitVec 32 := Scalar.addi v3545 v3546
  v3547.toNat
def k0_dev110 (d0 : Dev nD) : Nat :=
  let c0_i32_3463 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3462 : BitVec 32 := 2#32
  let v3577 : BitVec 32 := Scalar.muli v6 c2_i32_3462
  let v3578 : BitVec 32 := Scalar.addi c0_i32_3463 v3577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3464 : BitVec 32 := 1#32
  let v3579 : BitVec 32 := Scalar.muli v5 c1_i32_3464
  let v3580 : BitVec 32 := Scalar.addi v3578 v3579
  v3580.toNat
def k0_dev111 (d0 : Dev nD) : Nat :=
  let c0_i32_3494 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3493 : BitVec 32 := 2#32
  let v3610 : BitVec 32 := Scalar.muli v2 c2_i32_3493
  let v3611 : BitVec 32 := Scalar.addi c0_i32_3494 v3610
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3495 : BitVec 32 := 1#32
  let v3612 : BitVec 32 := Scalar.muli v7 c1_i32_3495
  let v3613 : BitVec 32 := Scalar.addi v3611 v3612
  v3613.toNat
def k0_dev112 (d0 : Dev nD) : Nat :=
  let c0_i32_3527 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3526 : BitVec 32 := 2#32
  let v3643 : BitVec 32 := Scalar.muli v6 c2_i32_3526
  let v3644 : BitVec 32 := Scalar.addi c0_i32_3527 v3643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3528 : BitVec 32 := 1#32
  let v3645 : BitVec 32 := Scalar.muli v5 c1_i32_3528
  let v3646 : BitVec 32 := Scalar.addi v3644 v3645
  v3646.toNat
def k0_dev113 (d0 : Dev nD) : Nat :=
  let c0_i32_3558 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3557 : BitVec 32 := 2#32
  let v3676 : BitVec 32 := Scalar.muli v2 c2_i32_3557
  let v3677 : BitVec 32 := Scalar.addi c0_i32_3558 v3676
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3559 : BitVec 32 := 1#32
  let v3678 : BitVec 32 := Scalar.muli v7 c1_i32_3559
  let v3679 : BitVec 32 := Scalar.addi v3677 v3678
  v3679.toNat
def k0_dev114 (d0 : Dev nD) : Nat :=
  let c0_i32_3591 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3590 : BitVec 32 := 2#32
  let v3709 : BitVec 32 := Scalar.muli v6 c2_i32_3590
  let v3710 : BitVec 32 := Scalar.addi c0_i32_3591 v3709
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3592 : BitVec 32 := 1#32
  let v3711 : BitVec 32 := Scalar.muli v5 c1_i32_3592
  let v3712 : BitVec 32 := Scalar.addi v3710 v3711
  v3712.toNat
def k0_dev115 (d0 : Dev nD) : Nat :=
  let c0_i32_3622 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3621 : BitVec 32 := 2#32
  let v3742 : BitVec 32 := Scalar.muli v2 c2_i32_3621
  let v3743 : BitVec 32 := Scalar.addi c0_i32_3622 v3742
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3623 : BitVec 32 := 1#32
  let v3744 : BitVec 32 := Scalar.muli v7 c1_i32_3623
  let v3745 : BitVec 32 := Scalar.addi v3743 v3744
  v3745.toNat
def k0_dev116 (d0 : Dev nD) : Nat :=
  let c0_i32_3655 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3654 : BitVec 32 := 2#32
  let v3775 : BitVec 32 := Scalar.muli v6 c2_i32_3654
  let v3776 : BitVec 32 := Scalar.addi c0_i32_3655 v3775
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3656 : BitVec 32 := 1#32
  let v3777 : BitVec 32 := Scalar.muli v5 c1_i32_3656
  let v3778 : BitVec 32 := Scalar.addi v3776 v3777
  v3778.toNat
def k0_dev117 (d0 : Dev nD) : Nat :=
  let c0_i32_3686 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3685 : BitVec 32 := 2#32
  let v3808 : BitVec 32 := Scalar.muli v2 c2_i32_3685
  let v3809 : BitVec 32 := Scalar.addi c0_i32_3686 v3808
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3687 : BitVec 32 := 1#32
  let v3810 : BitVec 32 := Scalar.muli v7 c1_i32_3687
  let v3811 : BitVec 32 := Scalar.addi v3809 v3810
  v3811.toNat
def k0_dev118 (d0 : Dev nD) : Nat :=
  let c0_i32_3719 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3718 : BitVec 32 := 2#32
  let v3841 : BitVec 32 := Scalar.muli v6 c2_i32_3718
  let v3842 : BitVec 32 := Scalar.addi c0_i32_3719 v3841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3720 : BitVec 32 := 1#32
  let v3843 : BitVec 32 := Scalar.muli v5 c1_i32_3720
  let v3844 : BitVec 32 := Scalar.addi v3842 v3843
  v3844.toNat
def k0_dev119 (d0 : Dev nD) : Nat :=
  let c0_i32_3750 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3749 : BitVec 32 := 2#32
  let v3874 : BitVec 32 := Scalar.muli v2 c2_i32_3749
  let v3875 : BitVec 32 := Scalar.addi c0_i32_3750 v3874
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3751 : BitVec 32 := 1#32
  let v3876 : BitVec 32 := Scalar.muli v7 c1_i32_3751
  let v3877 : BitVec 32 := Scalar.addi v3875 v3876
  v3877.toNat
def k0_dev120 (d0 : Dev nD) : Nat :=
  let c0_i32_3783 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3782 : BitVec 32 := 2#32
  let v3907 : BitVec 32 := Scalar.muli v6 c2_i32_3782
  let v3908 : BitVec 32 := Scalar.addi c0_i32_3783 v3907
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3784 : BitVec 32 := 1#32
  let v3909 : BitVec 32 := Scalar.muli v5 c1_i32_3784
  let v3910 : BitVec 32 := Scalar.addi v3908 v3909
  v3910.toNat
def k0_dev121 (d0 : Dev nD) : Nat :=
  let c0_i32_3814 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3813 : BitVec 32 := 2#32
  let v3940 : BitVec 32 := Scalar.muli v2 c2_i32_3813
  let v3941 : BitVec 32 := Scalar.addi c0_i32_3814 v3940
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3815 : BitVec 32 := 1#32
  let v3942 : BitVec 32 := Scalar.muli v7 c1_i32_3815
  let v3943 : BitVec 32 := Scalar.addi v3941 v3942
  v3943.toNat
def k0_dev122 (d0 : Dev nD) : Nat :=
  let c0_i32_3847 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3846 : BitVec 32 := 2#32
  let v3973 : BitVec 32 := Scalar.muli v6 c2_i32_3846
  let v3974 : BitVec 32 := Scalar.addi c0_i32_3847 v3973
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3848 : BitVec 32 := 1#32
  let v3975 : BitVec 32 := Scalar.muli v5 c1_i32_3848
  let v3976 : BitVec 32 := Scalar.addi v3974 v3975
  v3976.toNat
def k0_dev123 (d0 : Dev nD) : Nat :=
  let c0_i32_3878 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3877 : BitVec 32 := 2#32
  let v4006 : BitVec 32 := Scalar.muli v2 c2_i32_3877
  let v4007 : BitVec 32 := Scalar.addi c0_i32_3878 v4006
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3879 : BitVec 32 := 1#32
  let v4008 : BitVec 32 := Scalar.muli v7 c1_i32_3879
  let v4009 : BitVec 32 := Scalar.addi v4007 v4008
  v4009.toNat
def k0_dev124 (d0 : Dev nD) : Nat :=
  let c0_i32_3911 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3910 : BitVec 32 := 2#32
  let v4039 : BitVec 32 := Scalar.muli v6 c2_i32_3910
  let v4040 : BitVec 32 := Scalar.addi c0_i32_3911 v4039
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3912 : BitVec 32 := 1#32
  let v4041 : BitVec 32 := Scalar.muli v5 c1_i32_3912
  let v4042 : BitVec 32 := Scalar.addi v4040 v4041
  v4042.toNat
def k0_dev125 (d0 : Dev nD) : Nat :=
  let c0_i32_3942 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3941 : BitVec 32 := 2#32
  let v4072 : BitVec 32 := Scalar.muli v2 c2_i32_3941
  let v4073 : BitVec 32 := Scalar.addi c0_i32_3942 v4072
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3943 : BitVec 32 := 1#32
  let v4074 : BitVec 32 := Scalar.muli v7 c1_i32_3943
  let v4075 : BitVec 32 := Scalar.addi v4073 v4074
  v4075.toNat
def k0_dev126 (d0 : Dev nD) : Nat :=
  let c0_i32_3971 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3970 : BitVec 32 := 2#32
  let v4099 : BitVec 32 := Scalar.muli v6 c2_i32_3970
  let v4100 : BitVec 32 := Scalar.addi c0_i32_3971 v4099
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3972 : BitVec 32 := 1#32
  let v4101 : BitVec 32 := Scalar.muli v5 c1_i32_3972
  let v4102 : BitVec 32 := Scalar.addi v4100 v4101
  v4102.toNat
def k0_dev127 (d0 : Dev nD) : Nat :=
  let c0_i32_4002 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4001 : BitVec 32 := 2#32
  let v4132 : BitVec 32 := Scalar.muli v2 c2_i32_4001
  let v4133 : BitVec 32 := Scalar.addi c0_i32_4002 v4132
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4003 : BitVec 32 := 1#32
  let v4134 : BitVec 32 := Scalar.muli v7 c1_i32_4003
  let v4135 : BitVec 32 := Scalar.addi v4133 v4134
  v4135.toNat
def k0_dev128 (d0 : Dev nD) : Nat :=
  let c0_i32_4031 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4030 : BitVec 32 := 2#32
  let v4159 : BitVec 32 := Scalar.muli v6 c2_i32_4030
  let v4160 : BitVec 32 := Scalar.addi c0_i32_4031 v4159
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4032 : BitVec 32 := 1#32
  let v4161 : BitVec 32 := Scalar.muli v5 c1_i32_4032
  let v4162 : BitVec 32 := Scalar.addi v4160 v4161
  v4162.toNat
def k0_dev129 (d0 : Dev nD) : Nat :=
  let c0_i32_4062 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4061 : BitVec 32 := 2#32
  let v4192 : BitVec 32 := Scalar.muli v2 c2_i32_4061
  let v4193 : BitVec 32 := Scalar.addi c0_i32_4062 v4192
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4063 : BitVec 32 := 1#32
  let v4194 : BitVec 32 := Scalar.muli v7 c1_i32_4063
  let v4195 : BitVec 32 := Scalar.addi v4193 v4194
  v4195.toNat
def k0_dev130 (d0 : Dev nD) : Nat :=
  let c0_i32_4092 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4091 : BitVec 32 := 2#32
  let v4224 : BitVec 32 := Scalar.muli v2 c2_i32_4091
  let v4225 : BitVec 32 := Scalar.addi c0_i32_4092 v4224
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4093 : BitVec 32 := 1#32
  let v4226 : BitVec 32 := Scalar.muli v7 c1_i32_4093
  let v4227 : BitVec 32 := Scalar.addi v4225 v4226
  v4227.toNat
def k0_off2 (d0 : Dev nD) (c0_i32_4097 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c16384_i32_5 : BitVec 32 := 16384#32
  let v10 : BitVec 32 := Scalar.muli v9 c16384_i32_5
  let v4234 : BitVec 32 := Scalar.addi v10 c0_i32_4097
  let c0_i32_4103 : BitVec 32 := 0#32
  ![v4234.toNat, 0]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
/- The kernel's body as a program over chunk numbers.

   The printed body is one straight run of about a thousand memory operations. Here every operation is written once, for
   an arbitrary chunk `k`, and the body is a recursion over chunks; `body_eq` states that the printed body is this program. -/
module

public import proofs.«01_k».proof.Proof.Gen.KernelIdeal
public import proofs.«01_k».proof.Proof.Gen.KernelIdeal.Points
public import proofs.«01_k».proof.Proof.Gen.KernelIdeal.Launch

@[expose] public section

noncomputable section

namespace Cert.AllReduce

open Idealize.ShloMosaic Idealize.ShloMosaic.TcCoe Idealize.SL.Sem
open Cert.KernelIdeal Cert.KernelIdeal.Gen

variable {F : FTy → Type} [FloatOps F]

/-! ## Side conditions, for every chunk -/

/-- Chunk `k`'s 256 rows lie in the 16384 rows of the receive buffer. -/
theorem chunk_inb (k : Fin 64) : ∀ a, (![256 * k.val, 0] : Fin 2 → Nat) a + S256x1024.size a ≤ S16384x1024.size a := by
  revert k; decide
/-- Chunk `k` of the receive buffer covers whole words. -/
theorem chunk_words (k : Fin 64) : (Rect.unit (s := S16384x1024) ![256 * k.val, 0] S256x1024.size (chunk_inb k)).WholeWords (EltTy.packing .bf16) := by
  revert k; decide
/-- Chunk `k` of the receive buffer covers whole packed rows. -/
theorem chunk_packed (k : Fin 64) : (Rect.unit (s := S16384x1024) ![256 * k.val, 0] S256x1024.size (chunk_inb k)).PackedRows (EltTy.packing .bf16) := by
  revert k; decide
/-- Slot `k mod 2` lies in a buffer of two slots. -/
theorem slot_inb (k : Fin 64) : ∀ a, (![k.val % 2, 0, 0] : Fin 3 → Nat) a + S1x256x1024.size a ≤ S2x256x1024.size a := by
  revert k; decide
/-- A bfloat16 slot covers whole words. -/
theorem slot_words (k : Fin 64) : (Rect.unit (s := S2x256x1024) ![k.val % 2, 0, 0] S1x256x1024.size (slot_inb k)).WholeWords (EltTy.packing .bf16) := by
  revert k; decide
/-- A bfloat16 slot covers whole packed rows. -/
theorem slot_packed (k : Fin 64) : (Rect.unit (s := S2x256x1024) ![k.val % 2, 0, 0] S1x256x1024.size (slot_inb k)).PackedRows (EltTy.packing .bf16) := by
  revert k; decide
/-- Semaphore `k` is among the 64 of its array. -/
theorem sem_inb (k : Fin 64) : ∀ a, (![k.val] : Fin 1 → Nat) a + S1.size a ≤ S64.size a := by
  revert k; decide

/-! ## Buffers, slices and semaphores -/

/-- The input array. -/
abbrev xA : Memref sig .tc .hbm S32768x1024 .f32 := Memref.whole main_arg0
/-- The result array. -/
abbrev oA : Memref sig .tc .hbm S32768x1024 .bf16 := Memref.whole main_v1
/-- The two float32 slots. -/
abbrev fB : Memref sig .tc .vmem S2x256x1024 .f32 := Memref.whole cc0_scratch0
/-- The two bfloat16 slots. -/
abbrev bB : Memref sig .tc .vmem S2x256x1024 .bf16 := Memref.whole cc0_scratch1
/-- The receive buffer, which also holds the sums. -/
abbrev rB : Memref sig .tc .vmem S16384x1024 .bf16 := Memref.whole cc0_scratch2

/-- The rectangle of slot `k mod 2`. -/
abbrev slotR (k : Fin 64) : Rect S2x256x1024 := Rect.unit (s := S2x256x1024) ![k.val % 2, 0, 0] S1x256x1024.size (slot_inb k)
/-- The rectangle of chunk `k` in the receive buffer. -/
abbrev chunkR (k : Fin 64) : Rect S16384x1024 := Rect.unit (s := S16384x1024) ![256 * k.val, 0] S256x1024.size (chunk_inb k)
/-- Chunk `k` of the rows of device `c`'s half. -/
abbrev ownR (c : Dev nD) (k : Fin 64) : Rect S32768x1024 :=
  Rect.unit (s := S32768x1024) (k0_off1 c (BitVec.ofNat 32 (256 * k.val))) S256x1024.size (k0_off1_inb c k)
/-- Chunk `k` of the rows of the other half. -/
abbrev othR (c : Dev nD) (k : Fin 64) : Rect S32768x1024 :=
  Rect.unit (s := S32768x1024) (k0_off2 c (BitVec.ofNat 32 (256 * k.val))) S256x1024.size (k0_off2_inb c k)

/-- Chunk `k` of the device's half of the input. -/
abbrev xC (c : Dev nD) (k : Fin 64) : Memref sig .tc .hbm S256x1024 .f32 := xA.slice (ownR c k) (fun _ => rfl)
/-- Chunk `k` of the device's own half of the result. -/
abbrev oC (c : Dev nD) (k : Fin 64) : Memref sig .tc .hbm S256x1024 .bf16 := oA.slice (ownR c k) (fun _ => rfl)
/-- Chunk `k` of the other half of the result. -/
abbrev pC (c : Dev nD) (k : Fin 64) : Memref sig .tc .hbm S256x1024 .bf16 := oA.slice (othR c k) (fun _ => rfl)
/-- Chunk `k` of the receive buffer. -/
abbrev rC (k : Fin 64) : Memref sig .tc .vmem S256x1024 .bf16 := rB.slice (chunkR k) (fun _ => rfl)
/-- The float32 slot of chunk `k`. -/
abbrev fC (k : Fin 64) : Memref sig .tc .vmem S256x1024 .f32 := (fB.slice (slotR k) (fun _ => rfl)).squeeze S256x1024 squeezes_S1x256x1024_S256x1024
/-- The bfloat16 slot of chunk `k`. -/
abbrev bC (k : Fin 64) : Memref sig .tc .vmem S256x1024 .bf16 := (bB.slice (slotR k) (fun _ => rfl)).squeeze S256x1024 squeezes_S1x256x1024_S256x1024

/-- Semaphore `k` of an array of 64. -/
abbrev semAt (a : DmaSems sig S64) (k : Fin 64) : DmaSem sig := ((a.slice (Rect.unit (s := S64) ![k.val] S1.size (sem_inb k))).squeeze S_ squeezes_S1_S_).sem
/-- The semaphore of the load of chunk `k`. -/
abbrev inS (k : Fin 64) : DmaSem sig := semAt cc0_scratch3 k
/-- The semaphore of its store in the result. -/
abbrev stS (k : Fin 64) : DmaSem sig := semAt cc0_scratch4 k
/-- The semaphore on which its transfer along x has left. -/
abbrev xsS (k : Fin 64) : DmaSem sig := semAt cc0_scratch5 k
/-- The semaphore on which the neighbour's chunk arrives along x. -/
abbrev xrS (k : Fin 64) : DmaSem sig := semAt cc0_scratch6 k
/-- The semaphore on which its sum has left along y. -/
abbrev ysS (k : Fin 64) : DmaSem sig := semAt cc0_scratch7 k
/-- The semaphore on which the neighbour's sum arrives along y. -/
abbrev yrS (k : Fin 64) : DmaSem sig := semAt cc0_scratch8 k
/-- The barrier semaphore. -/
abbrev barS : Sem sig := (SemArray.scalar (sig.barrier 0 rfl) : Sems sig S_).sem

/-- The neighbour along x. -/
abbrev xDev (c : Dev nD) : Dev nD := ⟨k0_dev1 c, k0_dev1_lt c⟩
/-- The neighbour along y. -/
abbrev yDev (c : Dev nD) : Dev nD := ⟨k0_dev2 c, k0_dev2_lt c⟩

/-- Chunk `k` of the input covers whole words, as every view that is copied must. -/
theorem xW (c : Dev nD) (k : Fin 64) : (xC c k).view.WordExact := View.wordExact_bits rfl
/-- So does a float32 slot. -/
theorem fW (k : Fin 64) : (fC k).view.WordExact := (View.wordExact_bits rfl).reshape _ _
/-- So does a bfloat16 slot. -/
theorem bW (k : Fin 64) : (bC k).view.WordExact := ((Memref.isWhole_whole _).wordExact_slice rfl _ (slot_words k)).reshape _ _
/-- So does a chunk of the receive buffer. -/
theorem rW (k : Fin 64) : (rC k).view.WordExact := (Memref.isWhole_whole _).wordExact_slice rfl _ (chunk_words k)
/-- So does a chunk of the device's own half of the result. -/
theorem oW (c : Dev nD) (k : Fin 64) : (oC c k).view.WordExact := (Memref.isWhole_whole _).wordExact_slice rfl _ (k0_off1_wordsbf16 c k)
/-- So does a chunk of the other half of the result. -/
theorem pW (c : Dev nD) (k : Fin 64) : (pC c k).view.WordExact := (Memref.isWhole_whole _).wordExact_slice rfl _ (k0_off2_wordsbf16 c k)

/-! ## The operations -/

/-- A piece of the body, the rest of it as an argument. -/
abbrev Pg (F : FTy → Type) : Type 1 := Prog (TpuEff nD τ sig (Elt F) Λ₀ .tc) PUnit

/-- The slot of float32 rows rounded to bfloat16. -/
def castPay (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024
/-- The received rows plus the device's own. -/
def addPay (v : Vec F S256x1024 .bf16) (w : Vec F S1x256x1024 .bf16) : FVec F S256x1024 .bf16 :=
  shapeCast S256x1024 (addf v (shapeCast S256x1024 w shapeCasts_S1x256x1024_S256x1024)) shapeCasts_S256x1024_S256x1024

/-- Start the load of chunk `k`. -/
def startIn (c : Dev nD) (k : Fin 64) (K : Pg F) : Pg F :=
  .op (.enqueueDma (xC c k) (.here (fC k)) (.dma (inS k)) (xW c k) (fW k) ⟨Or.inl rfl, trivial⟩) fun _ => K
/-- Wait for the load of chunk `k`. -/
def waitIn (c : Dev nD) (k : Fin 64) (K : Pg F) : Pg F :=
  .op (.waitDma2 (inS k) (xC c k) (fC k) (xW c k) (fW k)) fun _ => K
/-- Round slot `k mod 2` to bfloat16. -/
def castStep (k : Fin 64) (K : Pg F) : Pg F :=
  .op (.load fB (slotR k).toLoadRect (View.loadsAt_vmem h_S1x256x1024)) fun v =>
  .op (.load bB (slotR k).toLoadRect (View.loadsAt_vmem h_S1x256x1024)) fun _ =>
  .op (.store bB (slotR k) (castPay v) Finset.univ (View.stores_vmem h_S1x256x1024 ((Memref.isWhole_whole _).storeExact_slice rfl _ (slot_packed k)) (fun _ => rfl)) (.inl rfl)) fun _ => K
/-- Start the transfer of chunk `k` along x. -/
def startX (c : Dev nD) (k : Fin 64) (K : Pg F) : Pg F :=
  .op (.enqueueDma (bC k) (.remote (Dev.tc (xDev c)) (rC k) (.dma (xsS k))) (.dma (xrS k)) (bW k) (rW k) ⟨⟨rfl, Or.inl rfl⟩, trivial⟩) fun _ => K
/-- Wait until chunk `k` has left along x. -/
def waitXs (k : Fin 64) (K : Pg F) : Pg F := .op (.waitDma2 (xsS k) (rC k) (bC k) (rW k) (bW k)) fun _ => K
/-- Wait until the neighbour's chunk `k` has arrived along x. -/
def waitXr (k : Fin 64) (K : Pg F) : Pg F := .op (.waitDma2 (xrS k) (bC k) (rC k) (bW k) (rW k)) fun _ => K
/-- Add the device's own rows to those received. -/
def addStep (k : Fin 64) (K : Pg F) : Pg F :=
  .op (.load rB (chunkR k).toLoadRect (View.loadsAt_vmem h_S256x1024)) fun v =>
  .op (.load bB (slotR k).toLoadRect (View.loadsAt_vmem h_S1x256x1024)) fun w =>
  .op (.load rB (chunkR k).toLoadRect (View.loadsAt_vmem h_S256x1024)) fun _ =>
  .op (.store rB (chunkR k) (addPay v w) Finset.univ (View.stores_vmem h_S256x1024 ((Memref.isWhole_whole _).storeExact_slice rfl _ (chunk_packed k)) (fun _ => rfl)) (.inl rfl)) fun _ => K
/-- Start the copy of the sum to the result. -/
def startSt (c : Dev nD) (k : Fin 64) (K : Pg F) : Pg F :=
  .op (.enqueueDma (rC k) (.here (oC c k)) (.dma (stS k)) (rW k) (oW c k) ⟨Or.inl rfl, trivial⟩) fun _ => K
/-- Wait until the sum of chunk `k` is stored in the result. -/
def waitSt (c : Dev nD) (k : Fin 64) (K : Pg F) : Pg F := .op (.waitDma2 (stS k) (rC k) (oC c k) (rW k) (oW c k)) fun _ => K
/-- Start the transfer of the sum along y. -/
def startY (c : Dev nD) (k : Fin 64) (K : Pg F) : Pg F :=
  .op (.enqueueDma (rC k) (.remote (Dev.tc (yDev c)) (oC c k) (.dma (ysS k))) (.dma (yrS k)) (rW k) (oW c k) ⟨⟨rfl, Or.inl rfl⟩, trivial⟩) fun _ => K
/-- Wait until the sum of chunk `k` has left along y. -/
def waitYs (c : Dev nD) (k : Fin 64) (K : Pg F) : Pg F := .op (.waitDma2 (ysS k) (oC c k) (rC k) (oW c k) (rW k)) fun _ => K
/-- Wait until the neighbour's sum of chunk `k` has arrived along y. -/
def waitYr (c : Dev nD) (k : Fin 64) (K : Pg F) : Pg F := .op (.waitDma2 (yrS k) (rC k) (pC c k) (rW k) (pW c k)) fun _ => K
/-- The handshake with both neighbours. -/
def handshake (c : Dev nD) (K : Pg F) : Pg F :=
  .op (.semSignal (Dev.tc (xDev c)) barS 1) fun _ => .op (.semSignal (Dev.tc (yDev c)) barS 1) fun _ => .op (.semWait barS 2) fun _ => K

/-! ## The body -/

/-- Chunk `k` on its way: loaded, rounded, sent along x, with the load of chunk `k + 2` started once its slot is read. -/
def issue (c : Dev nD) (k : Fin 64) (K : Pg F) : Pg F :=
  waitIn c k <|
  (if 2 ≤ k.val then waitXs ⟨k.val - 2, by omega⟩ else id) <|
  castStep k <|
  (if h : k.val + 2 < 64 then startIn c ⟨k.val + 2, h⟩ else id) <|
  startX c k K

/-- What the loop does with chunk `k`. -/
def chunkStep (c : Dev nD) (k : Fin 64) (K : Pg F) : Pg F :=
  waitXr k <| addStep k <| startSt c k <| startY c k <|
  (if h : k.val + 2 < 64 then issue c ⟨k.val + 2, h⟩ else id) K

/-- `step k` for the last `n` chunks, in order. -/
def lastChunks (step : Fin 64 → Pg F → Pg F) : Nat → Pg F → Pg F
  | 0, K => K
  | n + 1, K => step ⟨63 - n, by omega⟩ (lastChunks step n K)

/-- The body on device `c`. -/
def bodyAt (c : Dev nD) : Pg F :=
  startIn c 0 <| startIn c 1 <| handshake c <| issue c 0 <| issue c 1 <|
  lastChunks (chunkStep c) 64 <|
  lastChunks (waitYr c) 64 <|
  lastChunks waitXs 2 <|
  lastChunks (fun k K => waitYs c k (waitSt c k K)) 64 <| .ret ⟨⟩

set_option maxRecDepth 1000000 in
/-- The printed body is the program above. -/
theorem body_eq (t : Fin cfg0.N) : bodyAt0 (F := F) t = .op .deviceId bodyAt := by
  chain_rfl

end Cert.AllReduce

end
-- ==== Proof.Contents.lean ====
/- What every array holds, chunk by chunk, and how the two HBM arrays and the receive buffer are cut into chunks. -/
module

public import proofs.«01_k».proof.Proof.Program

@[expose] public section

noncomputable section

namespace Cert.AllReduce

open Idealize.ShloMosaic Idealize.ShloMosaic.TcCoe Idealize.SL.Sem
open Cert.KernelIdeal Cert.KernelIdeal.Gen

variable {F : FTy → Type} [FloatOps F]

/-! ## The two neighbours -/

/-- The neighbour along x, as a number. -/
theorem xDev_val (c : Dev nD) : (xDev c).val = (c.val % 2 + 2) - 2 * (c.val / 2) := k0_dev1_eq c
/-- The neighbour along y, as a number. -/
theorem yDev_val (c : Dev nD) : (yDev c).val = (2 * (c.val / 2) + 1) - c.val % 2 := k0_dev2_eq c
/-- The neighbour's neighbour along x is the device itself. -/
theorem xDev_xDev (c : Dev nD) : xDev (xDev c) = c := by revert c; decide +kernel
/-- The neighbour's neighbour along y is the device itself. -/
theorem yDev_yDev (c : Dev nD) : yDev (yDev c) = c := by revert c; decide +kernel
/-- Neighbours along x work on the same half. -/
theorem xDev_half (c : Dev nD) : (xDev c).val % 2 = c.val % 2 := by revert c; decide +kernel
/-- Neighbours along y work on different halves. -/
theorem yDev_half (c : Dev nD) : (yDev c).val % 2 = 1 - c.val % 2 := by revert c; decide +kernel

/-- The neighbour along x as a permutation of the mesh. -/
def xPerm : Dev nD ≃ Dev nD := ⟨xDev, xDev, xDev_xDev, xDev_xDev⟩
/-- The neighbour along y as a permutation of the mesh. -/
def yPerm : Dev nD ≃ Dev nD := ⟨yDev, yDev, yDev_yDev, yDev_yDev⟩

/-! ## Views in general -/

section Views
variable {sig' : RefSig} {κ : Kind} {Val : EltTy → Type}

/-- Contents that read alike through a view agree on the view's elements. -/
theorem eq_of_read_eq {sp : Space} {s : Shape} {e : EltTy} {v : View sig' κ sp s e} {f g : v.ty.Contents Val}
    (h : v.read Val f = v.read Val g) : ∀ i ∈ v.set, f i = g i := by
  intro i hi
  obtain ⟨x, -, rfl⟩ := Finset.mem_map.mp hi
  have := congrFun h x
  rw [View.read_apply, View.read_apply] at this
  exact (cast_bijective (congrArg Val v.elt_eq)).1 this

/-- What a reshaped view reads is the base view's reading, recast. -/
theorem read_reshape {sp : Space} {s s' : Shape} {e : EltTy} (v : View sig' κ sp s e) (h : s'.numel = s.numel) (f : v.ty.Contents Val) :
    (v.reshape s' h).read Val f = fun x => v.read Val f (Shape.reshapeEquiv h x) := rfl

end Views

/-! ## The rows of a chunk -/

/-- Where the rows of chunk `k` of a device's half start. -/
theorem ownR_off (c : Dev nD) (k : Fin 64) : k0_off1 c (BitVec.ofNat 32 (256 * k.val)) = ![16384 * (c.val % 2) + 256 * k.val, 0] := k0_off1_eq c k

/-- Chunks of the same half are the same rows, whatever the device. -/
theorem xC_eq {c d : Dev nD} (h : c.val % 2 = d.val % 2) (k : Fin 64) : xC c k = xC d k :=
  Memref.slice_unit_congr _ ((ownR_off c k).trans (by rw [h]; exact (ownR_off d k).symm)) _ _ _ _
/-- Chunks of the same half of the result are the same rows, whatever the device. -/
theorem oC_eq {c d : Dev nD} (h : c.val % 2 = d.val % 2) (k : Fin 64) : oC c k = oC d k :=
  Memref.slice_unit_congr _ ((ownR_off c k).trans (by rw [h]; exact (ownR_off d k).symm)) _ _ _ _
/-- Chunks of the same parity share a slot. -/
theorem fC_eq {j k : Fin 64} (h : j.val % 2 = k.val % 2) : fC j = fC k :=
  congrArg (fun M : Memref sig .tc .vmem S1x256x1024 .f32 => M.squeeze S256x1024 squeezes_S1x256x1024_S256x1024)
    (Memref.slice_unit_congr fB (by rw [h]) (slot_inb j) (slot_inb k) (fun _ => rfl) (fun _ => rfl))
/-- Chunks of the same parity share a bfloat16 slot. -/
theorem bC_eq {j k : Fin 64} (h : j.val % 2 = k.val % 2) : bC j = bC k :=
  congrArg (fun M : Memref sig .tc .vmem S1x256x1024 .bf16 => M.squeeze S256x1024 squeezes_S1x256x1024_S256x1024)
    (Memref.slice_unit_congr bB (by rw [h]) (slot_inb j) (slot_inb k) (fun _ => rfl) (fun _ => rfl))

/-- The row of the array that row `x` of chunk `k` is. -/
theorem ownR_emb0 (c : Dev nD) (k : Fin 64) (x : S256x1024.Idx) : (((ownR c k).emb x) 0).val = 16384 * (c.val % 2) + 256 * k.val + (x 0).val := by
  rw [Rect.emb_apply]
  show (k0_off1 c (BitVec.ofNat 32 (256 * k.val))) 0 + 1 * (x 0).val = _
  rw [ownR_off, Nat.one_mul]; rfl

/-- The columns of a chunk are the array's. -/
theorem ownR_emb1 (c : Dev nD) (k : Fin 64) (x : S256x1024.Idx) : (((ownR c k).emb x) 1).val = (x 1).val := by
  rw [Rect.emb_apply]
  show (k0_off1 c (BitVec.ofNat 32 (256 * k.val))) 1 + 1 * (x 1).val = _
  rw [ownR_off, Nat.one_mul]; exact Nat.zero_add _
/-- Devices of the same half place a chunk's elements alike. -/
theorem ownR_emb_eq {c d : Dev nD} (h : c.val % 2 = d.val % 2) (k : Fin 64) (x : S256x1024.Idx) : (ownR c k).emb x = (ownR d k).emb x := by
  funext a
  refine Fin.ext ?_
  fin_cases a
  · exact (ownR_emb0 c k x).trans (by rw [h]; exact (ownR_emb0 d k x).symm)
  · exact (ownR_emb1 c k x).trans (ownR_emb1 d k x).symm

/-- The rows of chunk `k` of a device's half. -/
theorem mem_ownR {c : Dev nD} {k : Fin 64} {i : S32768x1024.Idx} :
    i ∈ (ownR c k).set ↔ 16384 * (c.val % 2) + 256 * k.val ≤ (i 0).val ∧ (i 0).val < 16384 * (c.val % 2) + 256 * k.val + 256 := by
  rw [Rect.mem_set_unit, ownR_off]
  constructor
  · intro h; exact h 0
  · intro h a
    fin_cases a
    · exact h
    · exact ⟨Nat.zero_le _, (Nat.zero_add 1024).symm ▸ (i 1).isLt⟩

/-- The rows of chunk `k` of the receive buffer. -/
theorem mem_chunkR {k : Fin 64} {i : S16384x1024.Idx} :
    i ∈ (chunkR k).set ↔ 256 * k.val ≤ (i 0).val ∧ (i 0).val < 256 * k.val + 256 := by
  rw [Rect.mem_set_unit]
  constructor
  · intro h; exact h 0
  · intro h a
    fin_cases a
    · exact h
    · exact ⟨Nat.zero_le _, (Nat.zero_add 1024).symm ▸ (i 1).isLt⟩

/-- The elements of the slot of chunk `k`. -/
theorem mem_slotR {k : Fin 64} {i : S2x256x1024.Idx} : i ∈ (slotR k).set ↔ (i 0).val = k.val % 2 := by
  rw [Rect.mem_set_unit]
  constructor
  · intro h; have := h 0
    have h1 : k.val % 2 ≤ (i 0).val := this.1
    have h2 : (i 0).val < k.val % 2 + 1 := this.2
    omega
  · intro h a
    fin_cases a
    · show k.val % 2 ≤ (i 0).val ∧ (i 0).val < k.val % 2 + 1
      omega
    · exact ⟨Nat.zero_le _, (Nat.zero_add 256).symm ▸ (i 1).isLt⟩
    · exact ⟨Nat.zero_le _, (Nat.zero_add 1024).symm ▸ (i 2).isLt⟩

/-! ## The pieces partition their buffers -/

/-- Different chunks of the receive buffer have no row in common. -/
theorem chunks_disjoint (j k : Fin 64) (h : j ≠ k) : Disjoint (chunkR j).set (chunkR k).set := by
  rw [Finset.disjoint_left]; intro i hi hk
  rw [mem_chunkR] at hi hk
  exact h (Fin.ext (by omega))
/-- The chunks cover the receive buffer. -/
theorem chunks_cover : Finset.univ.biUnion (fun k : Fin 64 => (chunkR k).set) = Finset.univ := by
  refine Finset.eq_univ_of_forall fun i => Finset.mem_biUnion.mpr ?_
  have h0 : (i 0).val < 16384 := (i 0).isLt
  refine ⟨⟨(i 0).val / 256, by omega⟩, Finset.mem_univ _, mem_chunkR.mpr ?_⟩
  dsimp only; omega

/-- Of two chunks of an HBM array in the same half, or in different halves. -/
theorem rows_disjoint (c d : Dev nD) (j k : Fin 64) (h : c.val % 2 ≠ d.val % 2 ∨ j ≠ k) : Disjoint (ownR c j).set (ownR d k).set := by
  rw [Finset.disjoint_left]; intro i hi hk
  rw [mem_ownR] at hi hk
  have hj := j.isLt; have hk' := k.isLt
  rcases h with h | h
  · omega
  · by_cases hcd : c.val % 2 = d.val % 2
    · exact h (Fin.ext (by rw [hcd] at hi; omega))
    · omega

/-- The rows of both halves, chunk by chunk, are the whole array: `false` the device's own half, `true` the other. -/
abbrev halfDev (c : Dev nD) (b : Bool) : Dev nD := if b then yDev c else c
/-- The y neighbour's half is the other one. -/
theorem half_ne (c : Dev nD) : c.val % 2 ≠ (yDev c).val % 2 := by revert c; decide +kernel
/-- The halves of neighbours along y are 0 and 1, in some order. -/
theorem half_add (c : Dev nD) : c.val % 2 + (yDev c).val % 2 = 1 := by revert c; decide +kernel
/-- Different chunks of the two halves have no row in common. -/
theorem halves_disjoint (c : Dev nD) (a b : Bool × Fin 64) (h : a ≠ b) :
    Disjoint (ownR (halfDev c a.1) a.2).set (ownR (halfDev c b.1) b.2).set := by
  apply rows_disjoint
  obtain ⟨a1, a2⟩ := a; obtain ⟨b1, b2⟩ := b
  by_cases h1 : a1 = b1
  · subst h1; right; intro h2; exact h (by rw [show a2 = b2 from h2])
  · left
    cases a1 <;> cases b1 <;> first | exact absurd rfl h1 | exact half_ne c | exact (half_ne c).symm
/-- The chunks of the two halves cover the array. -/
theorem halves_cover (c : Dev nD) :
    Finset.univ.biUnion (fun a : Bool × Fin 64 => (ownR (halfDev c a.1) a.2).set) = Finset.univ := by
  refine Finset.eq_univ_of_forall fun i => Finset.mem_biUnion.mpr ?_
  have h0 : (i 0).val < 32768 := (i 0).isLt
  have hy := half_add c
  by_cases h : (i 0).val / 16384 = c.val % 2
  · refine ⟨(false, ⟨(i 0).val % 16384 / 256, by omega⟩), Finset.mem_univ _, mem_ownR.mpr ?_⟩
    simp only [halfDev, Bool.false_eq_true, if_false]; omega
  · refine ⟨(true, ⟨(i 0).val % 16384 / 256, by omega⟩), Finset.mem_univ _, mem_ownR.mpr ?_⟩
    simp only [halfDev, if_true]
    generalize (yDev c).val % 2 = e at hy ⊢
    omega

/-- The two slots have no element in common. -/
theorem slots_disjoint (a b : Fin 2) (h : a ≠ b) : Disjoint (slotR ⟨a.val, by omega⟩).set (slotR ⟨b.val, by omega⟩).set := by
  rw [Finset.disjoint_left]; intro i hi hk
  rw [mem_slotR] at hi hk
  have := a.isLt; have := b.isLt
  exact h (Fin.ext (by dsimp only at hi hk; omega))
/-- The two slots cover their buffer. -/
theorem slots_cover : Finset.univ.biUnion (fun a : Fin 2 => (slotR ⟨a.val, by omega⟩).set) = Finset.univ := by
  refine Finset.eq_univ_of_forall fun i => Finset.mem_biUnion.mpr ?_
  have h0 : (i 0).val < 2 := (i 0).isLt
  refine ⟨⟨(i 0).val, h0⟩, Finset.mem_univ _, mem_slotR.mpr ?_⟩
  dsimp only; omega

/-! ## The contents -/

variable (m : (ℓ : Loc nD τ sig) → Buf (Elt F) ℓ)

/-- The input block of device `c` at launch. -/
abbrev X (c : Dev nD) : S32768x1024.Idx → Elt F .f32 := m ((c : Thread nD τ).loc main_arg0)

/-- Chunk `k` of device `c`'s half of its input. -/
def xv (c : Dev nD) (k : Fin 64) : S256x1024.Idx → Elt F .f32 := (xC c k).view.read (Elt F) (m ((c : Thread nD τ).loc main_arg0))
/-- Chunk `k` of device `c`'s half of its input, rounded to bfloat16. -/
def bv (c : Dev nD) (k : Fin 64) : S256x1024.Idx → Elt F .bf16 := truncf .bf16 (xv m c k : FVec F S256x1024 .f32) bitsLt_bf16_f32
/-- The sum for chunk `k`, the rows of the neighbour along x first. -/
def sv (c : Dev nD) (k : Fin 64) : S256x1024.Idx → Elt F .bf16 := addf (bv m (xDev c) k : FVec F S256x1024 .bf16) (bv m c k)

/-- The device in `c`'s row of the mesh whose half holds result row `i`. -/
def ownerOf (c : Dev nD) (i : S32768x1024.Idx) : Dev nD :=
  ⟨2 * (c.val / 2) + (i 0).val / 16384, by have h0 : (i 0).val < 32768 := (i 0).isLt; have := c.isLt; simp only [nD] at this ⊢; omega⟩

/-- What the result array of device `c` ends with: at every element the rounded input of the owner's x neighbour plus the
    owner's own. -/
def outV (c : Dev nD) : S32768x1024.Idx → Elt F .bf16 := fun i =>
  FloatOps.addf (FloatOps.truncf .bf16 bitsLt_bf16_f32 (X m (xDev (ownerOf c i)) i)) (FloatOps.truncf .bf16 bitsLt_bf16_f32 (X m (ownerOf c i) i))

/-- The owner of a row of a device's chunk is that device. -/
theorem ownerOf_emb {c d : Dev nD} (h : d.val / 2 = c.val / 2) (k : Fin 64) (x : S256x1024.Idx) : ownerOf c ((ownR d k).emb x) = d := by
  refine Fin.ext ?_
  show 2 * (c.val / 2) + (((ownR d k).emb x) 0).val / 16384 = d.val
  rw [ownR_emb0]
  have hx : (x 0).val < 256 := (x 0).isLt
  have hk := k.isLt; have hd := d.isLt
  omega

/-- Chunk `k` of the half of `d` (`c` itself or its y neighbour), read off the final result. -/
theorem read_outV {c d : Dev nD} (h : d.val / 2 = c.val / 2) (k : Fin 64) : (oC d k).view.read (Elt F) (outV m c) = sv m d k := by
  funext x
  have hx : xv m (xDev d) k x = X m (xDev d) ((ownR d k).emb x) := congrArg (X m (xDev d)) (ownR_emb_eq (xDev_half d) k x)
  show outV m c ((ownR d k).emb x) = FloatOps.addf (FloatOps.truncf .bf16 bitsLt_bf16_f32 (xv m (xDev d) k x)) (FloatOps.truncf .bf16 bitsLt_bf16_f32 (xv m d k x))
  rw [hx]
  unfold outV; rw [ownerOf_emb h]; rfl

/-- Neighbours along y are in the same row of the mesh. -/
theorem yDev_row (c : Dev nD) : (yDev c).val / 2 = c.val / 2 := by revert c; decide +kernel

/-! ## The two computations -/

/-- Rounding a slot and reading it as a chunk. -/
theorem read_cast (k : Fin 64) (f : fB.view.ty.Contents (Elt F)) (g : bB.view.ty.Contents (Elt F)) :
    (bC k).view.read (Elt F) ((bB.access (slotR k)).write (Elt F) g (castPay (fB.view.readAt (Elt F) (slotR k).toLoadRect f)) Finset.univ)
      = truncf .bf16 ((fC k).view.read (Elt F) f : FVec F S256x1024 .f32) bitsLt_bf16_f32 := by
  show ((bB.access (slotR k)).reshape S256x1024 _).read (Elt F) _ = _
  rw [read_reshape, View.read_write_univ]
  funext x
  unfold castPay
  unfold shapeCast
  rw [Shape.reshapeEquiv_reshapeEquiv, Shape.reshapeEquiv_self]
  rfl

/-- Adding a slot to a chunk of the receive buffer. -/
theorem read_add (k : Fin 64) (f f' : rB.view.ty.Contents (Elt F)) (g : bB.view.ty.Contents (Elt F)) :
    (rC k).view.read (Elt F) ((rB.access (chunkR k)).write (Elt F) f' (addPay (rB.view.readAt (Elt F) (chunkR k).toLoadRect f)
        (bB.view.readAt (Elt F) (slotR k).toLoadRect g)) Finset.univ)
      = addf ((rC k).view.read (Elt F) f : FVec F S256x1024 .bf16) ((bC k).view.read (Elt F) g) := by
  show (rB.access (chunkR k)).read (Elt F) _ = _
  rw [View.read_write_univ]
  funext x
  unfold addPay
  unfold shapeCast
  rw [Shape.reshapeEquiv_self]
  rfl

end Cert.AllReduce

end
-- ==== Proof.Protocol.lean ====
/- The protocol: which semaphore hands over what.

   Every DMA semaphore is waited for once, for one transfer, so each is a cell of one round with one duty, paid by that
   transfer. With `x`, `y` the neighbours of a device `c`, the cells of chunk `k` on `c` hand `c`
     load (0)          slot `k mod 2` holding `c`'s rows, and the rows of the input back;
     store (1)         the rows of the result holding the sum, and half of the receive buffer's chunk back;
     x, source (2)     half of slot `k mod 2` back;
     x, arrival (3)    chunk `k` of the receive buffer holding `x`'s rows, paid by `x`;
     y, source (4)     the other half of the receive buffer's chunk back;
     y, arrival (5)    the rows of the result in the other half holding `y`'s sum, paid by `y`.
   The barrier cell of `c` has two duties: `false`, paid by `x` with its whole receive buffer, and `true`, paid by `y` with
   the rows of `y`'s result array in `c`'s half.

   A device waits for the arrival of chunk `k` along x while it owes arrivals along x of chunks after `k` and arrivals
   along y; so barrier cells are below the x arrivals, those are in the order of the chunks, and the y arrivals are above. -/
module

public import proofs.«01_k».proof.Proof.Contents
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The ghost state of the kernel's own rounds. -/
abbrev UB : Type := URounds (GSem nD τ sig) Bool
/-- The ghost state of the launch and of the kernel's rounds. -/
abbrev UU : Type := UR sig nD τ × UB

local notation "𝕄" => MT nD τ sig Unit (Elt F) ℕ UU ℕ

/-- Where the launch's ghost state is. -/
abbrev EP : Emb (UR sig nD τ) (MT nD τ sig Unit (Elt F) ℕ UU ℕ) := embL
/-- Where the rounds' ghost state is. -/
abbrev ER : Emb UB (MT nD τ sig Unit (Elt F) ℕ UU ℕ) := embR

/-! ## Cells -/

/-- The six semaphores of chunk `k`: load, store, x source, x arrival, y source, y arrival. -/
def dS (a : Fin 6) (k : Fin 64) : DmaSem sig := finProdFinEquiv (a, k)
/-- The family and the chunk of a DMA semaphore. -/
def dec (s : DmaSem sig) : Fin 6 × Fin 64 := finProdFinEquiv.symm s

/-- The family and the chunk of semaphore `k` of family `a` are `a` and `k`. -/
theorem dec_dS (a : Fin 6) (k : Fin 64) : dec (dS a k) = (a, k) := Equiv.symm_apply_apply _ _
/-- Different families or chunks have different semaphores. -/
theorem dS_inj {a b : Fin 6} {j k : Fin 64} (h : dS a j = dS b k) : a = b ∧ j = k := by
  have := congrArg dec h
  rw [dec_dS, dec_dS] at this
  exact Prod.mk.inj this

/-- The loads' semaphores are family 0. -/
theorem inS_eq (k : Fin 64) : inS k = dS 0 k := by revert k; decide +kernel
/-- The stores' semaphores are family 1. -/
theorem stS_eq (k : Fin 64) : stS k = dS 1 k := by revert k; decide +kernel
/-- The sending side's semaphores along x are family 2. -/
theorem xsS_eq (k : Fin 64) : xsS k = dS 2 k := by revert k; decide +kernel
/-- The receiving side's semaphores along x are family 3. -/
theorem xrS_eq (k : Fin 64) : xrS k = dS 3 k := by revert k; decide +kernel
/-- The sending side's semaphores along y are family 4. -/
theorem ysS_eq (k : Fin 64) : ysS k = dS 4 k := by revert k; decide +kernel
/-- The receiving side's semaphores along y are family 5. -/
theorem yrS_eq (k : Fin 64) : yrS k = dS 5 k := by revert k; decide +kernel

/-- Semaphore `k` of family `a` on device `c`. -/
abbrev cell (c : Dev nD) (a : Fin 6) (k : Fin 64) : GSem nD τ sig := ((c : Thread nD τ), .dma (dS a k))
/-- The barrier semaphore of device `c`. -/
abbrev barCell (c : Dev nD) : GSem nD τ sig := ((c : Thread nD τ), .reg barS)

/-- What a transfer of one chunk of float32, or of bfloat16, raises its semaphore by. -/
def amt (a : Fin 6) : ℕ := if a = 0 then (fC 0).view.dmaCredit else (rC 0).view.dmaCredit
/-- Every transfer credits something. -/
theorem amt_pos (a : Fin 6) : 0 < amt a := by
  unfold amt; split
  · exact View.dmaCredit_pos _ (by decide)
  · exact View.dmaCredit_pos _ (by decide)
/-- All transfers but the loads credit alike. -/
theorem amt_eq {a b : Fin 6} (ha : a ≠ 0) (hb : b ≠ 0) : amt a = amt b := by unfold amt; rw [if_neg ha, if_neg hb]
/-- What a load credits. -/
theorem credit_f (k : Fin 64) : (fC k).view.dmaCredit = amt 0 := rfl
/-- What a transfer of a chunk of the receive buffer credits. -/
theorem credit_r (k : Fin 64) {a : Fin 6} (ha : a ≠ 0) : (rC k).view.dmaCredit = amt a := by unfold amt; rw [if_neg ha]
/-- What a transfer of a bfloat16 slot credits. -/
theorem credit_b (k : Fin 64) {a : Fin 6} (ha : a ≠ 0) : (bC k).view.dmaCredit = amt a := by
  unfold amt; rw [if_neg ha]
/-- What a transfer to the own half of the result credits. -/
theorem credit_o (c : Dev nD) (k : Fin 64) {a : Fin 6} (ha : a ≠ 0) : (oC c k).view.dmaCredit = amt a := by
  unfold amt; rw [if_neg ha]
/-- What a transfer to the other half of the result credits. -/
theorem credit_p (c : Dev nD) (k : Fin 64) {a : Fin 6} (ha : a ≠ 0) : (pC c k).view.dmaCredit = amt a := by
  unfold amt; rw [if_neg ha]
attribute [irreducible] amt dS dec

/-! ## What the cells hand over -/

variable (m : (ℓ : Loc nD τ sig) → Buf (Elt F) ℓ)

/-- A piece of memory held outright, at whatever contents. -/
def any (c : Dev nD) {sp : Space} {sh : Shape} {e : EltTy} (M : Memref sig .tc sp sh e) : sProp 𝕄 :=
  iprop(∃ X, owns (c : Thread nD τ) M fullShare X)

/-- Chunk `k` of the input, as launched. -/
def xPt (c : Dev nD) (k : Fin 64) : sProp 𝕄 :=
  (xC c k).view.loc (c : Thread nD τ) ↦[(xC c k).view.set]{fullShare} m ((c : Thread nD τ).loc main_arg0)

/-- What the end of a transfer hands over on semaphore `k` of family `a`: the buffers it read and wrote, with their contents. -/
def dmaPay (c : Dev nD) (a : Fin 6) (k : Fin 64) : sProp 𝕄 :=
  match a with
  | 0 => iprop(owns (c : Thread nD τ) (fC k) fullShare (xv m c k) ∗ xPt m c k)
  | 1 => iprop(owns (c : Thread nD τ) (oC c k) fullShare (sv m c k) ∗ owns (c : Thread nD τ) (rC k) fullShare.left (sv m c k))
  | 2 => owns (c : Thread nD τ) (bC k) fullShare.left (bv m c k)
  | 3 => owns (c : Thread nD τ) (rC k) fullShare (bv m (xDev c) k)
  | 4 => owns (c : Thread nD τ) (rC k) fullShare.right (sv m c k)
  | 5 => owns (c : Thread nD τ) (oC (yDev c) k) fullShare (sv m (yDev c) k)

/-- What a neighbour's signal hands over on the barrier: the chunks of its result that device `c` may write (along y), or the chunks of its receive buffer (along x). -/
def barPay (c : Dev nD) (d : Bool) : sProp 𝕄 :=
  if d then bigSep Finset.univ fun k => any (yDev c) (oC c k) else bigSep Finset.univ fun k => any (xDev c) (rC k)

/-- Such an assertion can be put in an invariant. -/
instance any_storable (c : Dev nD) {sp : Space} {sh : Shape} {e : EltTy} (M : Memref sig .tc sp sh e) :
    BI.Storable (upEmb : UEmb _ 𝕄) (any (F := F) c M) := by unfold any; infer_instance
/-- What a transfer hands over can be put in an invariant. -/
instance dmaPay_storable (c : Dev nD) (a : Fin 6) (k : Fin 64) : BI.Storable (upEmb : UEmb _ 𝕄) (dmaPay m c a k) := by
  unfold dmaPay xPt; split <;> infer_instance
/-- What a signal hands over can be put in an invariant. -/
instance barPay_storable (c : Dev nD) (d : Bool) : BI.Storable (upEmb : UEmb _ 𝕄) (barPay (F := F) c d) := by
  unfold barPay; split <;> infer_instance

/-! ## The schedule -/

/-- One round. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt (dec s).1
  payload g _ d := match g.2 with | .reg _ => barPay g.1.1 d | .dma s => dmaPay m g.1.1 (dec s).1 (dec s).2
  amount_pos g _ _ _ := by
    rcases g with ⟨t, s | s⟩
    · exact Nat.one_pos
    · exact amt_pos _

/-- Every payload of the schedule can be put in an invariant. -/
instance payload_storable (g : GSem nD τ sig) (r : ℕ) (d : Bool) : BI.Storable (upEmb : UEmb _ 𝕄) ((Rd m).payload g r d) := by
  rcases g with ⟨t, s | s⟩
  · exact barPay_storable _ _
  · exact dmaPay_storable m _ _ _

section Sched
variable (c : Dev nD) (a : Fin 6) (k : Fin 64)

/-- The barrier has two payers. -/
theorem duties_bar : (Rd m).duties (barCell c) 0 = Finset.univ := by dsimp only [Rd]; exact if_pos ⟨rfl, rfl⟩
/-- Every other semaphore has one payer. -/
theorem duties_cell : (Rd m).duties (cell c a k) 0 = {false} := by dsimp only [Rd]; exact if_pos ⟨rfl, rfl⟩
/-- There is only one round. -/
theorem duties_later (g : GSem nD τ sig) : ∀ r, 1 ≤ r → (Rd m).duties g r = ∅ := fun r hr => by dsimp only [Rd]; exact if_neg fun h => by omega
/-- Both neighbours pay the barrier. -/
theorem mem_bar (d : Bool) : d ∈ (Rd m).duties (barCell c) 0 := by rw [duties_bar]; exact Finset.mem_univ _
/-- The transfer pays its semaphore. -/
theorem mem_cell : false ∈ (Rd m).duties (cell c a k) 0 := by rw [duties_cell]; exact Finset.mem_singleton_self _
/-- A signal is of one unit. -/
theorem amount_bar (d : Bool) : (Rd m).amount (barCell c) 0 d = 1 := rfl
/-- A transfer pays its credit. -/
theorem amount_cell (d : Bool) : (Rd m).amount (cell c a k) 0 d = amt a := congrArg (fun p : Fin 6 × Fin 64 => amt p.1) (dec_dS a k)
/-- Two units in all are paid on the barrier. -/
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
/-- What is paid in all on another semaphore. -/
theorem expect_cell : (Rd m).expect (cell c a k) 0 = amt a := by
  unfold Schedule.expect Schedule.amountOf; rw [duties_cell, Finset.sum_singleton, amount_cell]
/-- A signal's payload. -/
theorem payload_bar (d : Bool) : (Rd m).payload (barCell c) 0 d = barPay c d := rfl
/-- A transfer's payload. -/
theorem payload_cell (d : Bool) : (Rd m).payload (cell c a k) 0 d = dmaPay m c a k := congrArg (fun p : Fin 6 × Fin 64 => dmaPay m c p.1 p.2) (dec_dS a k)
/-- A wait on the barrier brings both neighbours' payloads. -/
theorem rest_bar : bigSep ((Rd m).duties (barCell c) 0 \ ∅) (fun d => (Rd m).payload (barCell c) 0 d)
    = iprop(barPay (F := F) c false ∗ barPay c true) := by
  rw [Finset.sdiff_empty, duties_bar, bigSep_univ_eq_bigSepL [false, true] (by decide) (by decide), bigSepL_cons_cons, bigSepL_singleton]
  rfl
/-- A wait on another semaphore brings its transfer's payload. -/
theorem rest_cell : bigSep ((Rd m).duties (cell c a k) 0 \ ∅) (fun d => (Rd m).payload (cell c a k) 0 d) = dmaPay m c a k := by
  rw [Finset.sdiff_empty, duties_cell, bigSep_singleton, payload_cell]

end Sched

/-! ## Families over the chunks from `n` on, and before `n` -/

/-- The chunks from `n` on. -/
def ge (n : ℕ) : Finset (Fin 64) := Finset.univ.filter fun k => n ≤ k.val
/-- The chunks before `n`. -/
def lt (n : ℕ) : Finset (Fin 64) := Finset.univ.filter fun k => k.val < n

/-- Which chunks are from `n` on. -/
theorem mem_ge {n : ℕ} {k : Fin 64} : k ∈ ge n ↔ n ≤ k.val := by unfold ge; rw [Finset.mem_filter]; exact ⟨fun h => h.2, fun h => ⟨Finset.mem_univ _, h⟩⟩
/-- Which chunks are before `n`. -/
theorem mem_lt {n : ℕ} {k : Fin 64} : k ∈ lt n ↔ k.val < n := by unfold lt; rw [Finset.mem_filter]; exact ⟨fun h => h.2, fun h => ⟨Finset.mem_univ _, h⟩⟩
/-- From 0 on: all. -/
theorem ge_zero : ge 0 = Finset.univ := Finset.eq_univ_of_forall fun k => mem_ge.mpr (Nat.zero_le _)
/-- Before 0: none. -/
theorem lt_zero : lt 0 = ∅ := Finset.eq_empty_of_forall_notMem fun k hk => absurd (mem_lt.mp hk) (Nat.not_lt_zero _)
/-- From 64 on: none. -/
theorem ge_top {n : ℕ} (h : 64 ≤ n) : ge n = ∅ := Finset.eq_empty_of_forall_notMem fun k hk => by have := mem_ge.mp hk; omega
/-- Before 64: all. -/
theorem lt_top {n : ℕ} (h : 64 ≤ n) : lt n = Finset.univ := Finset.eq_univ_of_forall fun k => mem_lt.mpr (by omega)
/-- Chunk `n` and those after it. -/
theorem ge_insert {n : ℕ} (h : n < 64) : ge n = insert ⟨n, h⟩ (ge (n + 1)) := by
  ext k; rw [Finset.mem_insert, mem_ge, mem_ge, Fin.ext_iff]; dsimp only; omega
/-- Chunk `n` and those before it. -/
theorem lt_insert {n : ℕ} (h : n < 64) : lt (n + 1) = insert ⟨n, h⟩ (lt n) := by
  ext k; rw [Finset.mem_insert, mem_lt, mem_lt, Fin.ext_iff]; dsimp only; omega
/-- Chunk `n` is not after itself. -/
theorem notMem_ge {n : ℕ} (h : n < 64) : (⟨n, h⟩ : Fin 64) ∉ ge (n + 1) := fun hk => by have := mem_ge.mp hk; dsimp only at this; omega
/-- Chunk `n` is not before itself. -/
theorem notMem_lt {n : ℕ} (h : n < 64) : (⟨n, h⟩ : Fin 64) ∉ lt n := fun hk => by have := mem_lt.mp hk; dsimp only at this; omega

/-- `A` of every chunk from `n` on. -/
def up (n : ℕ) (A : Fin 64 → sProp 𝕄) : sProp 𝕄 := bigSep (ge n) A
/-- `A` of every chunk before `n`. -/
def dn (n : ℕ) (A : Fin 64 → sProp 𝕄) : sProp 𝕄 := bigSep (lt n) A

/-- Chunk `n` taken from those from `n` on. -/
theorem up_peel (A : Fin 64 → sProp 𝕄) {n : ℕ} (h : n < 64) : up n A = iprop(A ⟨n, h⟩ ∗ up (n + 1) A) := by
  unfold up; rw [ge_insert h, bigSep_insert (notMem_ge h)]; rfl
/-- Chunk `n` added to those before it. -/
theorem dn_peel (A : Fin 64 → sProp 𝕄) {n : ℕ} (h : n < 64) : dn (n + 1) A = iprop(A ⟨n, h⟩ ∗ dn n A) := by
  unfold dn; rw [lt_insert h, bigSep_insert (notMem_lt h)]; rfl
/-- From 0 on: all chunks. -/
theorem up_zero (A : Fin 64 → sProp 𝕄) : up 0 A = bigSep Finset.univ A := by unfold up; rw [ge_zero]
/-- Before 0: nothing. -/
theorem dn_zero (A : Fin 64 → sProp 𝕄) : dn 0 A = iprop(emp) := by unfold dn; rw [lt_zero]; rfl
/-- From 64 on: nothing. -/
theorem up_top (A : Fin 64 → sProp 𝕄) {n : ℕ} (h : 64 ≤ n) : up n A = iprop(emp) := by unfold up; rw [ge_top h]; rfl
/-- Before 64: all chunks. -/
theorem dn_top (A : Fin 64 → sProp 𝕄) {n : ℕ} (h : 64 ≤ n) : dn n A = bigSep Finset.univ A := by unfold dn; rw [lt_top h]

/-! ## What each device owes; the levels -/

/-- What device `c` still owes along x when chunks before `n` are sent. -/
def OX (c : Dev nD) (n : ℕ) : CellTallies nD τ sig Unit := ∑ k ∈ ge n, tallyAt (cell (xDev c) 3 k) () (amt 3)
/-- What device `c` still owes along y when chunks before `n` are sent. -/
def OY (c : Dev nD) (n : ℕ) : CellTallies nD τ sig Unit := ∑ k ∈ ge n, tallyAt (cell (yDev c) 5 k) () (amt 5)

/-- What device `c` owes after its first signal: all transfers to its neighbours, and the signal along y. -/
def O₁ (c : Dev nD) : CellTallies nD τ sig Unit := OX c 0 + OY c 0 + tallyAt (barCell (yDev c)) () 1
/-- What device `c` owes at the start: both signals and all transfers to its neighbours. -/
def O₀ (c : Dev nD) : CellTallies nD τ sig Unit := O₁ c + tallyAt (barCell (xDev c)) () 1

/-- Sending chunk `n` along x pays one transfer. -/
theorem OX_peel (c : Dev nD) {n : ℕ} (h : n < 64) : OX c n = OX c (n + 1) + tallyAt (cell (xDev c) 3 ⟨n, h⟩) () (amt 3) := by
  unfold OX; rw [ge_insert h, Finset.sum_insert (notMem_ge h), add_comm]
/-- Sending chunk `n` along y pays one transfer. -/
theorem OY_peel (c : Dev nD) {n : ℕ} (h : n < 64) : OY c n = OY c (n + 1) + tallyAt (cell (yDev c) 5 ⟨n, h⟩) () (amt 5) := by
  unfold OY; rw [ge_insert h, Finset.sum_insert (notMem_ge h), add_comm]
/-- After the last chunk nothing is owed along x. -/
theorem OX_top (c : Dev nD) {n : ℕ} (h : 64 ≤ n) : OX c n = 0 := by unfold OX; rw [ge_top h]; rfl
/-- After the last chunk nothing is owed along y. -/
theorem OY_top (c : Dev nD) {n : ℕ} (h : 64 ≤ n) : OY c n = 0 := by unfold OY; rw [ge_top h]; rfl

/-- A sum of amounts owed is positive only at one of its cells. -/
theorem sum_tally_pos {S : Finset (Fin 64)} {f : Fin 64 → GSem nD τ sig} {N : ℕ} {g : GSem nD τ sig} {u : Unit}
    (h : 0 < (∑ k ∈ S, tallyAt (f k) () N : CellTallies nD τ sig Unit) g u) : ∃ k ∈ S, g = f k := by
  rw [Finset.sum_apply, Finsupp.finset_sum_apply] at h
  obtain ⟨k, hk, hne⟩ := Finset.exists_ne_zero_of_sum_ne_zero (Nat.pos_iff_ne_zero.mp h)
  refine ⟨k, hk, ?_⟩
  by_contra hn
  exact hne (by rw [tallyAt_apply, if_neg fun h' => hn h'.1])

/-- Where a device owes a transfer: at a receiving semaphore of a neighbour, of a chunk not yet sent. -/
theorem OXY_pos {c : Dev nD} {n n' : ℕ} {g : GSem nD τ sig} {u : Unit} (h : 0 < (OX c n + OY c n') g u) :
    (∃ k : Fin 64, n ≤ k.val ∧ g = cell (xDev c) 3 k) ∨ ∃ k : Fin 64, g = cell (yDev c) 5 k := by
  rw [Pi.add_apply, Finsupp.add_apply] at h
  rcases Nat.add_pos_iff_pos_or_pos.mp h with h | h
  · obtain ⟨k, hk, hg⟩ := sum_tally_pos h; exact .inl ⟨k, mem_ge.mp hk, hg⟩
  · obtain ⟨k, _, hg⟩ := sum_tally_pos h; exact .inr ⟨k, hg⟩

/-- Everything owed is owed to a TensorCore's semaphore. -/
theorem O₀_pos {c : Dev nD} {g : GSem nD τ sig} {u : Unit} (h : 0 < O₀ c g u) : g.1.2 = .tc := by
  unfold O₀ O₁ at h
  rw [Pi.add_apply, Finsupp.add_apply, Pi.add_apply, Finsupp.add_apply, tallyAt_apply, tallyAt_apply] at h
  rcases Nat.add_pos_iff_pos_or_pos.mp h with h | h
  · rcases Nat.add_pos_iff_pos_or_pos.mp h with h | h
    · rcases OXY_pos h with ⟨k, _, rfl⟩ | ⟨k, rfl⟩ <;> rfl
    · split at h
      · rename_i h'; rw [h'.1]
      · exact absurd h (Nat.lt_irrefl 0)
  · split at h
    · rename_i h'; rw [h'.1]
    · exact absurd h (Nat.lt_irrefl 0)

/-- The levels' index: the TensorCores' semaphores have one. -/
def L (g : GSem nD τ sig) : Finset Unit := if g.1.2 = .tc then {()} else ∅
/-- Barrier cells at 1, the arrival of chunk `k` along x at `2 + k`, arrivals along y at 100, the rest at 0. -/
def lvl (a : Fin 6) (k : Fin 64) : ℕ := if a = 3 then 2 + k.val else if a = 5 then 100 else 0
/-- The level of a semaphore. A device waits only below everything that it owes. -/
def lv (g : GSem nD τ sig) (_ : Unit) : ℕ := match g.2 with | .reg _ => 1 | .dma s => lvl (dec s).1 (dec s).2

/-- No other semaphore has a level. -/
theorem L_of_ne (g : GSem nD τ sig) (h : g.1.2 ≠ .tc) : L g = ∅ := if_neg h
/-- A TensorCore's semaphore has a level. -/
theorem L_tc (c : Dev nD) (sm : SemLoc sig) : L ((c : Thread nD τ), sm) = {()} := if_pos rfl
/-- The barrier's level. -/
theorem lv_bar (c : Dev nD) : lv (barCell c) () = 1 := rfl
/-- A DMA semaphore's level. -/
theorem lv_cell (c : Dev nD) (a : Fin 6) (k : Fin 64) : lv (cell c a k) () = lvl a k := congrArg (fun p : Fin 6 × Fin 64 => lvl p.1 p.2) (dec_dS a k)

/-- A device that owes the x arrivals from chunk `n` on and y arrivals may wait for a cell of its own below all these. -/
theorem mayWait_below (c : Dev nD) (sm : SemLoc sig) (n n' : ℕ) (hx : lv ((c : Thread nD τ), sm) () < 2 + n)
    (hy : lv ((c : Thread nD τ), sm) () < 100) : (levAts L lv : sProp 𝕄) ⊢ MayWait (c : Thread nD τ) sm () (OX c n + OY c n') :=
  MayOwe.of_cut (L := L) (lev := lv) (lv ((c : Thread nD τ), sm) ()) (fun p hp => by rw [Finset.mem_singleton.mp hp, L_tc]; exact Finset.mem_singleton_self _)
    (fun g u hg => by rcases OXY_pos hg with ⟨k, _, rfl⟩ | ⟨k, rfl⟩ <;> exact Finset.mem_singleton_self _)
    (fun p hp => by rw [Finset.mem_singleton.mp hp])
    (fun g u hg => by
      rcases OXY_pos hg with ⟨k, hk, rfl⟩ | ⟨k, rfl⟩
      · rw [lv_cell (xDev c) 3 k]; exact Nat.lt_of_lt_of_le hx (Nat.add_le_add_left hk 2)
      · rw [lv_cell (yDev c) 5 k]; exact hy)

/-- Whoever owes nothing may wait. -/
theorem mayWait_done (c : Dev nD) (sm : SemLoc sig) (n n' : ℕ) (hn : 64 ≤ n) (hn' : 64 ≤ n') :
    (levAts L lv : sProp 𝕄) ⊢ MayWait (c : Thread nD τ) sm () (OX c n + OY c n') := by
  rw [OX_top c hn, OY_top c hn', add_zero, MayWait_zero]; iintro -; iempintro

end Cert.AllReduce

end
-- ==== Proof.Steps.lean ====
/- One rule for every operation of the body, for an arbitrary chunk: what it takes, what it gives. -/
module

public import proofs.«01_k».proof.Proof.Protocol

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel has no loop that needs a variant. -/
abbrev 𝒱₀ : Variants := Variants.none

variable (m : (ℓ : Loc nD τ sig) → Buf (Elt F) ℓ)

/-- Program `P` on device `c` ends with `Q`. -/
abbrev runs (c : Dev nD) (P : Pg F) (Q : PUnit → sProp 𝕄) : sProp 𝕄 :=
  wp frame (wpE (defs₀ (F := F)) 𝒱₀ (c : Thread nD τ) none) Set.univ P Q

/-! ## What all devices know -/

/-- The cells of the protocol: a device's barrier cell, or one of its transfers'. -/
abbrev Cell : Type := Dev nD × Option (Fin 6 × Fin 64)
/-- The semaphore that `none` (the barrier) or a family and a chunk name. -/
def csem : Option (Fin 6 × Fin 64) → SemLoc sig
  | none => .reg barS
  | some p => .dma (dS p.1 p.2)
/-- The same on a device. -/
abbrev kcell (x : Cell) : GSem nD τ sig := ((x.1 : Thread nD τ), csem x.2)

/-- The cells' invariants at the names `K`; that each cell is at round 0 or later; the levels. -/
def ctx (K : Cell → ℕ) : sProp 𝕄 :=
  iprop((bigSep Finset.univ fun x => cellInv ER (Rd m) (K x) (kcell x)) ∗ (bigSep Finset.univ fun x => reached ER (kcell x) 0) ∗ levAts L lv)

/-- The shared context can be used again and again. -/
instance ctx_persistent (K : Cell → ℕ) : BI.Persistent (ctx m K) := by unfold ctx; infer_instance

variable (K : Cell → ℕ)

/-- One of many. -/
theorem all_elim {I : Type} [Fintype I] [DecidableEq I] (x : I) {Φ : I → sProp 𝕄} : bigSep Finset.univ Φ ⊢ Φ x := bigSep_elim (Finset.mem_univ x)

/-- The context has each DMA semaphore's invariant. -/
theorem ctx_inv (c : Dev nD) (a : Fin 6) (k : Fin 64) : ctx m K ⊢ cellInv ER (Rd m) (K (c, some (a, k))) (cell c a k) := by
  unfold ctx; iintro ⟨#H, -, -⟩
  iapply (all_elim ((c, some (a, k)) : Cell) (Φ := fun x => cellInv ER (Rd m) (K x) (kcell x))); iexact H
/-- The context has each DMA semaphore at its first round. -/
theorem ctx_reached (c : Dev nD) (a : Fin 6) (k : Fin 64) : ctx m K ⊢ reached ER (cell c a k) 0 := by
  unfold ctx; iintro ⟨-, #H, -⟩
  iapply (all_elim ((c, some (a, k)) : Cell) (Φ := fun x => (reached ER (kcell x) 0 : sProp 𝕄))); iexact H
/-- The context has each barrier's invariant. -/
theorem ctx_bar (c : Dev nD) : ctx m K ⊢ cellInv ER (Rd m) (K (c, none)) (barCell c) := by
  unfold ctx; iintro ⟨#H, -, -⟩
  iapply (all_elim ((c, none) : Cell) (Φ := fun x => cellInv ER (Rd m) (K x) (kcell x))); iexact H
/-- The context has each barrier at its first round. -/
theorem ctx_bar_reached (c : Dev nD) : ctx m K ⊢ reached ER (barCell c) 0 := by
  unfold ctx; iintro ⟨-, #H, -⟩
  iapply (all_elim ((c, none) : Cell) (Φ := fun x => (reached ER (kcell x) 0 : sProp 𝕄))); iexact H
/-- The context has the levels. -/
theorem ctx_lev : ctx m K ⊢ levAts L lv := by
  unfold ctx; iintro ⟨-, -, #H⟩; iexact H

/-- The token of a transfer, which lets its payer pay once. -/
def tk (c : Dev nD) (a : Fin 6) (k : Fin 64) : sProp 𝕄 := dutyTok ER (cell c a k) 0 false
/-- A semaphore not yet waited for. -/
def ps (c : Dev nD) (a : Fin 6) (k : Fin 64) : sProp 𝕄 := atPos ER (cell c a k) 0 ∅ 0
/-- A semaphore that was waited for. -/
def pd (c : Dev nD) (a : Fin 6) (k : Fin 64) : sProp 𝕄 := atPos ER (cell c a k) 1 ∅ 0
/-- The credit of a transfer that was started. -/
def cr (c : Dev nD) (a : Fin 6) (k : Fin 64) : sProp 𝕄 := cred (tallyAt (cell c a k) () (amt a))
/-- What `c` owes. -/
def ow (c : Dev nD) (O : CellTallies nD τ sig Unit) : sProp 𝕄 := iprop(∃ W, owes (c : Thread nD τ) O W)

/-! ## Waits -/

/-- A wait for one of `c`'s transfers. -/
theorem wp_waitCell (c : Dev nD) (a : Fin 6) (k : Fin 64) (O : CellTallies nD τ sig Unit) {w : TpuEff nD τ sig (Elt F) Λ₀ .tc PUnit}
    (hw : ∀ J : PUnit → sProp 𝕄, wpE (defs₀ (F := F)) 𝒱₀ (c : Thread nD τ) none Set.univ w J = waitSpec (c : Thread nD τ) Set.univ (.dma (dS a k)) (amt a) J)
    (hO : (levAts L lv : sProp 𝕄) ⊢ MayWait (c : Thread nD τ) (.dma (dS a k)) () O) {Q : PUnit → sProp 𝕄} {P : Pg F} :
    iprop(ctx m K ∗ cr c a k ∗ ps c a k ∗ ow c O)
      ⊢ iprop(((pd c a k ∗ ow c O ∗ dmaPay m c a k) -∗ runs c P Q) -∗ runs c (.op w fun _ => P) Q) := by
  unfold cr ps ow pd
  iintro ⟨#Hctx, Hc, Hat, ⟨%W, HO⟩⟩ Hk
  iapply (Rounds.wp_wait_rest_token 𝒱₀ ER (Rd m) (c : Thread nD τ) none (κ := K (c, some (a, k))) hw (Set.mem_univ _) () (O := O) (W := W)
      (R := 0) (m := 0) (T := ∅) (by rw [Nat.zero_add, expect_cell])) $$ [Hc HO Hat]
  · isplitr; · iapply (ctx_inv m K c a k); iexact Hctx
    isplitl [Hc]; · iexact Hc
    isplitl [HO]; · iexact HO
    isplitr; · iapply hO; iapply (ctx_lev m K); iexact Hctx
    iexact Hat
  iintro ⟨HO, Hat, -, Hpay⟩
  ihave Hp := (Entails.of_eq (rest_cell m c a k)) $$ Hpay
  iapply Hk
  isplitl [Hat]; · iexact Hat
  isplitl [HO]; · iexists _; iexact HO
  iexact Hp

section Waits
variable (c : Dev nD) (k : Fin 64) (n n' : ℕ)

/-- The wait for a load. -/
theorem wp_waitIn (hn : 0 < 2 + n) {Q : PUnit → sProp 𝕄} {P : Pg F} :
    iprop(ctx m K ∗ cr c 0 k ∗ ps c 0 k ∗ ow c (OX c n + OY c n'))
      ⊢ iprop(((pd c 0 k ∗ ow c (OX c n + OY c n') ∗ dmaPay m c 0 k) -∗ runs c P Q) -∗ runs c (waitIn c k P) Q) := by
  unfold waitIn; simp only [inS_eq]
  exact wp_waitCell m K c 0 k _ (fun J => (wpE_waitDma2_eq 𝒱₀ (c : Thread nD τ) none Set.univ J).trans (by rw [credit_f k]))
    (mayWait_below c _ n n' (by rw [lv_cell]; exact hn) (by rw [lv_cell]; exact Nat.zero_lt_succ 99))
/-- The wait for a chunk to leave along x. -/
theorem wp_waitXs (hn : 0 < 2 + n) {Q : PUnit → sProp 𝕄} {P : Pg F} :
    iprop(ctx m K ∗ cr c 2 k ∗ ps c 2 k ∗ ow c (OX c n + OY c n'))
      ⊢ iprop(((pd c 2 k ∗ ow c (OX c n + OY c n') ∗ dmaPay m c 2 k) -∗ runs c P Q) -∗ runs c (waitXs k P) Q) := by
  unfold waitXs; simp only [xsS_eq]
  exact wp_waitCell m K c 2 k _ (fun J => (wpE_waitDma2_eq 𝒱₀ (c : Thread nD τ) none Set.univ J).trans (by rw [credit_b k (a := 2) (by decide)]))
    (mayWait_below c _ n n' (by rw [lv_cell]; exact hn) (by rw [lv_cell]; exact Nat.zero_lt_succ 99))
/-- The wait for a chunk to arrive along x: allowed once this device has sent its own chunk `k`. -/
theorem wp_waitXr (hn : k.val < n) {Q : PUnit → sProp 𝕄} {P : Pg F} :
    iprop(ctx m K ∗ cr c 3 k ∗ ps c 3 k ∗ ow c (OX c n + OY c n'))
      ⊢ iprop(((pd c 3 k ∗ ow c (OX c n + OY c n') ∗ dmaPay m c 3 k) -∗ runs c P Q) -∗ runs c (waitXr k P) Q) := by
  unfold waitXr; simp only [xrS_eq]
  exact wp_waitCell m K c 3 k _ (fun J => (wpE_waitDma2_eq 𝒱₀ (c : Thread nD τ) none Set.univ J).trans (by rw [credit_r k (a := 3) (by decide)]))
    (mayWait_below c _ n n' (by rw [lv_cell]; exact Nat.add_lt_add_left hn 2) (by rw [lv_cell]; show 2 + k.val < 100; omega))
/-- The wait for a store in the result. -/
theorem wp_waitSt (hn : 0 < 2 + n) {Q : PUnit → sProp 𝕄} {P : Pg F} :
    iprop(ctx m K ∗ cr c 1 k ∗ ps c 1 k ∗ ow c (OX c n + OY c n'))
      ⊢ iprop(((pd c 1 k ∗ ow c (OX c n + OY c n') ∗ dmaPay m c 1 k) -∗ runs c P Q) -∗ runs c (waitSt c k P) Q) := by
  unfold waitSt; simp only [stS_eq]
  exact wp_waitCell m K c 1 k _ (fun J => (wpE_waitDma2_eq 𝒱₀ (c : Thread nD τ) none Set.univ J).trans (by rw [credit_o c k (a := 1) (by decide)]))
    (mayWait_below c _ n n' (by rw [lv_cell]; exact hn) (by rw [lv_cell]; exact Nat.zero_lt_succ 99))
/-- The wait for a sum to leave along y. -/
theorem wp_waitYs (hn : 0 < 2 + n) {Q : PUnit → sProp 𝕄} {P : Pg F} :
    iprop(ctx m K ∗ cr c 4 k ∗ ps c 4 k ∗ ow c (OX c n + OY c n'))
      ⊢ iprop(((pd c 4 k ∗ ow c (OX c n + OY c n') ∗ dmaPay m c 4 k) -∗ runs c P Q) -∗ runs c (waitYs c k P) Q) := by
  unfold waitYs; simp only [ysS_eq]
  exact wp_waitCell m K c 4 k _ (fun J => (wpE_waitDma2_eq 𝒱₀ (c : Thread nD τ) none Set.univ J).trans (by rw [credit_r k (a := 4) (by decide)]))
    (mayWait_below c _ n n' (by rw [lv_cell]; exact hn) (by rw [lv_cell]; exact Nat.zero_lt_succ 99))
/-- The wait for a sum to arrive along y: allowed once this device has sent all. -/
theorem wp_waitYr (hn : 64 ≤ n) (hn' : 64 ≤ n') {Q : PUnit → sProp 𝕄} {P : Pg F} :
    iprop(ctx m K ∗ cr c 5 k ∗ ps c 5 k ∗ ow c (OX c n + OY c n'))
      ⊢ iprop(((pd c 5 k ∗ ow c (OX c n + OY c n') ∗ dmaPay m c 5 k) -∗ runs c P Q) -∗ runs c (waitYr c k P) Q) := by
  unfold waitYr; simp only [yrS_eq]
  exact wp_waitCell m K c 5 k _ (fun J => (wpE_waitDma2_eq 𝒱₀ (c : Thread nD τ) none Set.univ J).trans (by rw [credit_p c k (a := 5) (by decide)])) (mayWait_done c _ n n' hn hn')

end Waits

/-! ## Transfers -/

section Transfers
variable (c : Dev nD) (k : Fin 64)

/-- A load that ends hands over the filled slot and the input's rows. -/
theorem pay_in (f : Buf (Elt F) ((fC k).view.loc (c : Thread nD τ))) :
    iprop(((fC k).view.loc (c : Thread nD τ) ↦[(fC k).view.set]{fullShare}
          (fC k).view.write (Elt F) f ((xC c k).view.read (Elt F) (m ((c : Thread nD τ).loc main_arg0))) Finset.univ)
        ∗ ((xC c k).view.loc (c : Thread nD τ) ↦[(xC c k).view.set]{fullShare} m ((c : Thread nD τ).loc main_arg0)))
      ⊢ (Rd m).payload (cell c 0 k) 0 false := by
  rw [payload_cell]
  show _ ⊢ iprop(owns (c : Thread nD τ) (fC k) fullShare (xv m c k) ∗ xPt m c k)
  unfold xPt owns
  iintro ⟨Hd, Hs⟩
  isplitl [Hd]
  · iexists _; isplitr; rotate_left
    · iexact Hd
    · ipureintro; exact View.read_write_univ _ _
  · iexact Hs

/-- A store that ends hands over the result's rows, with the sum, and its half of the chunk's permission. -/
theorem pay_st (f : Buf (Elt F) ((oC c k).view.loc (c : Thread nD τ))) (r : Buf (Elt F) ((rC k).view.loc (c : Thread nD τ)))
    (hr : (rC k).view.read (Elt F) r = sv m c k) :
    iprop(((oC c k).view.loc (c : Thread nD τ) ↦[(oC c k).view.set]{fullShare} (oC c k).view.write (Elt F) f ((rC k).view.read (Elt F) r) Finset.univ)
        ∗ ((rC k).view.loc (c : Thread nD τ) ↦[(rC k).view.set]{fullShare.left} r))
      ⊢ (Rd m).payload (cell c 1 k) 0 false := by
  rw [payload_cell]
  show _ ⊢ iprop(owns (c : Thread nD τ) (oC c k) fullShare (sv m c k) ∗ owns (c : Thread nD τ) (rC k) fullShare.left (sv m c k))
  unfold owns
  iintro ⟨Hd, Hs⟩
  isplitl [Hd]
  · iexists _; isplitr; rotate_left
    · iexact Hd
    · ipureintro; exact (View.read_write_univ _ _).trans hr
  · iexists r; isplitr; rotate_left
    · iexact Hs
    · ipureintro; exact hr

/-- A transfer along x that has left hands back its half of the slot. -/
theorem pay_xs (r : Buf (Elt F) ((bC k).view.loc (c : Thread nD τ))) (hr : (bC k).view.read (Elt F) r = bv m c k) :
    ((bC k).view.loc (c : Thread nD τ) ↦[(bC k).view.set]{fullShare.left} r) ⊢ (Rd m).payload (cell c 2 k) 0 false := by
  rw [payload_cell]
  show _ ⊢ owns (c : Thread nD τ) (bC k) fullShare.left (bv m c k)
  unfold owns
  iintro Hs
  iexists r; isplitr; rotate_left
  · iexact Hs
  · ipureintro; exact hr

/-- A transfer along x that arrives hands the neighbour its receive chunk, with this device's rows. -/
theorem pay_xr (f : Buf (Elt F) ((rC k).view.loc (xDev c : Thread nD τ))) (r : Buf (Elt F) ((bC k).view.loc (c : Thread nD τ)))
    (hr : (bC k).view.read (Elt F) r = bv m c k) :
    ((rC k).view.loc (xDev c : Thread nD τ) ↦[(rC k).view.set]{fullShare} (rC k).view.write (Elt F) f ((bC k).view.read (Elt F) r) Finset.univ)
      ⊢ (Rd m).payload (cell (xDev c) 3 k) 0 false := by
  rw [payload_cell]
  show _ ⊢ owns (xDev c : Thread nD τ) (rC k) fullShare (bv m (xDev (xDev c)) k)
  rw [xDev_xDev]
  unfold owns
  iintro Hs
  iexists _; isplitr; rotate_left
  · iexact Hs
  · ipureintro; exact (View.read_write_univ _ _).trans hr

/-- A transfer along y that has left hands back its half of the chunk. -/
theorem pay_ys (r : Buf (Elt F) ((rC k).view.loc (c : Thread nD τ))) (hr : (rC k).view.read (Elt F) r = sv m c k) :
    ((rC k).view.loc (c : Thread nD τ) ↦[(rC k).view.set]{fullShare.right} r) ⊢ (Rd m).payload (cell c 4 k) 0 false := by
  rw [payload_cell]
  show _ ⊢ owns (c : Thread nD τ) (rC k) fullShare.right (sv m c k)
  unfold owns
  iintro Hs
  iexists r; isplitr; rotate_left
  · iexact Hs
  · ipureintro; exact hr

/-- A transfer along y that arrives hands the neighbour its result's rows, with this device's sum. -/
theorem pay_yr (f : Buf (Elt F) ((oC c k).view.loc (yDev c : Thread nD τ))) (r : Buf (Elt F) ((rC k).view.loc (c : Thread nD τ)))
    (hr : (rC k).view.read (Elt F) r = sv m c k) :
    ((oC c k).view.loc (yDev c : Thread nD τ) ↦[(oC c k).view.set]{fullShare} (oC c k).view.write (Elt F) f ((rC k).view.read (Elt F) r) Finset.univ)
      ⊢ (Rd m).payload (cell (yDev c) 5 k) 0 false := by
  rw [payload_cell]
  show _ ⊢ owns (yDev c : Thread nD τ) (oC (yDev (yDev c)) k) fullShare (sv m (yDev (yDev c)) k)
  rw [yDev_yDev]
  unfold owns
  iintro Hs
  iexists _; isplitr; rotate_left
  · iexact Hs
  · ipureintro; exact (View.read_write_univ _ _).trans hr

/-- The start of a load. -/
theorem wp_startIn {Q : PUnit → sProp 𝕄} {P : Pg F} :
    iprop(ctx m K ∗ xPt m c k ∗ any c (fC k) ∗ tk c 0 k) ⊢ iprop((cr c 0 k -∗ runs c P Q) -∗ runs c (startIn c k P) Q) := by
  suffices h : ∀ (s : DmaSem sig) (_ : s = dS 0 k) ht,
      iprop(ctx m K ∗ xPt m c k ∗ any c (fC k) ∗ tk c 0 k) ⊢ iprop((cr c 0 k -∗ runs c P Q)
        -∗ runs c (.op (.enqueueDma (xC c k) (.here (fC k)) (.dma s) (xW c k) (fW k) ht) fun _ => P) Q) from h _ (inS_eq k) _
  rintro _ rfl ht
  unfold any owns xPt tk cr
  iintro ⟨#Hctx, Hx, ⟨%X, %f, %hf, Hf⟩, Ht⟩ Hk
  iapply (Rounds.wp_copy_pointsTo 𝒱₀ ER (Rd m) (c : Thread nD τ) none (src := xC c k) (dst := fC k) (sem := .dma (dS 0 k)) (κ := K (c, some (0, k)))
      (r := 0) (d := false) (fs := m ((c : Thread nD τ).loc main_arg0)) (fd := f) (q := fullShare)
      (mem_cell m c 0 k) () (amt 0) (credit_f k) (amount_cell m c 0 k false) (pay_in m c k f)) $$ [Hx Hf Ht]
  · isplitr; · iapply (ctx_inv m K c 0 k); iexact Hctx
    isplitl [Hx]; · iexact Hx
    isplitl [Hf]; · iexact Hf
    isplitl [Ht]; · iexact Ht
    iapply (ctx_reached m K c 0 k); iexact Hctx
  iexact Hk

/-- The start of a store in the result. -/
theorem wp_startSt {Q : PUnit → sProp 𝕄} {P : Pg F} :
    iprop(ctx m K ∗ owns (c : Thread nD τ) (rC k) fullShare.left (sv m c k) ∗ any c (oC c k) ∗ tk c 1 k)
      ⊢ iprop((cr c 1 k -∗ runs c P Q) -∗ runs c (startSt c k P) Q) := by
  suffices h : ∀ (s : DmaSem sig) (_ : s = dS 1 k) ht,
      iprop(ctx m K ∗ owns (c : Thread nD τ) (rC k) fullShare.left (sv m c k) ∗ any c (oC c k) ∗ tk c 1 k) ⊢ iprop((cr c 1 k -∗ runs c P Q)
        -∗ runs c (.op (.enqueueDma (rC k) (.here (oC c k)) (.dma s) (rW k) (oW c k) ht) fun _ => P) Q) from h _ (stS_eq k) _
  rintro _ rfl ht
  unfold any owns tk cr
  iintro ⟨#Hctx, ⟨%r, %hr, Hr⟩, ⟨%X, %f, %hf, Hf⟩, Ht⟩ Hk
  iapply (Rounds.wp_copy_pointsTo 𝒱₀ ER (Rd m) (c : Thread nD τ) none (src := rC k) (dst := oC c k) (sem := .dma (dS 1 k)) (κ := K (c, some (1, k)))
      (r := 0) (d := false) (fs := r) (fd := f) (q := fullShare.left)
      (mem_cell m c 1 k) () (amt 1) (credit_o c k (by decide)) (amount_cell m c 1 k false) (pay_st m c k f r hr)) $$ [Hr Hf Ht]
  · isplitr; · iapply (ctx_inv m K c 1 k); iexact Hctx
    isplitl [Hr]; · iexact Hr
    isplitl [Hf]; · iexact Hf
    isplitl [Ht]; · iexact Ht
    iapply (ctx_reached m K c 1 k); iexact Hctx
  iexact Hk

/-- The start of a transfer along x, which pays what this device owed for it. -/
theorem wp_startX (O : CellTallies nD τ sig Unit) {Q : PUnit → sProp 𝕄} {P : Pg F} :
    iprop(ctx m K ∗ owns (c : Thread nD τ) (bC k) fullShare.left (bv m c k) ∗ any (xDev c) (rC k) ∗ ow c (OX c k.val + O) ∗ tk c 2 k ∗ tk (xDev c) 3 k)
      ⊢ iprop((cr c 2 k ∗ ow c (OX c (k.val + 1) + O) -∗ runs c P Q) -∗ runs c (startX c k P) Q) := by
  suffices h : ∀ (s : DmaSem sig) (_ : s = dS 2 k) (s' : DmaSem sig) (_ : s' = dS 3 k) ht,
      iprop(ctx m K ∗ owns (c : Thread nD τ) (bC k) fullShare.left (bv m c k) ∗ any (xDev c) (rC k) ∗ ow c (OX c k.val + O) ∗ tk c 2 k ∗ tk (xDev c) 3 k)
      ⊢ iprop((cr c 2 k ∗ ow c (OX c (k.val + 1) + O) -∗ runs c P Q)
        -∗ runs c (.op (.enqueueDma (bC k) (.remote (Dev.tc (xDev c)) (rC k) (.dma s)) (.dma s') (bW k) (rW k) ht) fun _ => P) Q)
    from h _ (xsS_eq k) _ (xrS_eq k) _
  rintro _ rfl _ rfl ht
  unfold any owns tk cr ow
  iintro ⟨#Hctx, ⟨%r, %hr, Hr⟩, ⟨%X, %f, %hf, Hf⟩, ⟨%W, HO⟩, Ht, Ht'⟩ Hk
  iapply (Rounds.wp_send_pointsTo 𝒱₀ ER (Rd m) (c : Thread nD τ) none (c' := (xDev c : Thread nD τ)) (src := bC k) (dst := rC k) (sS := .dma (dS 2 k)) (sem := .dma (dS 3 k))
      (κ₁ := K (c, some (2, k))) (κ₂ := K (xDev c, some (3, k))) (fs := r) (q := fullShare.left)
      (r₁ := 0) (r₂ := 0) (d₁ := false) (d₂ := false) (fd := f) (mem_cell m c 2 k) (mem_cell m (xDev c) 3 k) () () (amt 3) (credit_r k (by decide))
      ((amount_cell m c 2 k false).trans (amt_eq (by decide) (by decide))) (amount_cell m (xDev c) 3 k false)
      (O₀ := OX c k.val + O) (OX c (k.val + 1) + O)
      (by rw [OX_peel c k.isLt]; exact add_right_comm _ _ _) (W := W) (pay_xs m c k r hr) (pay_xr m c k f r hr)) $$ [Hr Hf HO Ht Ht']
  · isplitr; · iapply (ctx_inv m K c 2 k); iexact Hctx
    isplitr; · iapply (ctx_inv m K (xDev c) 3 k); iexact Hctx
    isplitl [Hr]; · iexact Hr
    isplitl [Hf]; · iexact Hf
    isplitl [HO]; · iexact HO
    isplitl [Ht]; · iexact Ht
    isplitr; · iapply (ctx_reached m K c 2 k); iexact Hctx
    isplitl [Ht']; · iexact Ht'
    iapply (ctx_reached m K (xDev c) 3 k); iexact Hctx
  iintro ⟨Hc, HO⟩
  iapply Hk
  isplitl [Hc]; · rw [amt_eq (a := 2) (b := 3) (by decide) (by decide)]; iexact Hc
  iexists W; iexact HO

/-- The start of a transfer along y, which pays what this device owed for it. -/
theorem wp_startY (O : CellTallies nD τ sig Unit) {Q : PUnit → sProp 𝕄} {P : Pg F} :
    iprop(ctx m K ∗ owns (c : Thread nD τ) (rC k) fullShare.right (sv m c k) ∗ any (yDev c) (oC c k) ∗ ow c (O + OY c k.val) ∗ tk c 4 k ∗ tk (yDev c) 5 k)
      ⊢ iprop((cr c 4 k ∗ ow c (O + OY c (k.val + 1)) -∗ runs c P Q) -∗ runs c (startY c k P) Q) := by
  suffices h : ∀ (s : DmaSem sig) (_ : s = dS 4 k) (s' : DmaSem sig) (_ : s' = dS 5 k) ht,
      iprop(ctx m K ∗ owns (c : Thread nD τ) (rC k) fullShare.right (sv m c k) ∗ any (yDev c) (oC c k) ∗ ow c (O + OY c k.val) ∗ tk c 4 k ∗ tk (yDev c) 5 k)
      ⊢ iprop((cr c 4 k ∗ ow c (O + OY c (k.val + 1)) -∗ runs c P Q)
        -∗ runs c (.op (.enqueueDma (rC k) (.remote (Dev.tc (yDev c)) (oC c k) (.dma s)) (.dma s') (rW k) (oW c k) ht) fun _ => P) Q)
    from h _ (ysS_eq k) _ (yrS_eq k) _
  rintro _ rfl _ rfl ht
  unfold any owns tk cr ow
  iintro ⟨#Hctx, ⟨%r, %hr, Hr⟩, ⟨%X, %f, %hf, Hf⟩, ⟨%W, HO⟩, Ht, Ht'⟩ Hk
  iapply (Rounds.wp_send_pointsTo 𝒱₀ ER (Rd m) (c : Thread nD τ) none (c' := (yDev c : Thread nD τ)) (src := rC k) (dst := oC c k) (sS := .dma (dS 4 k)) (sem := .dma (dS 5 k))
      (κ₁ := K (c, some (4, k))) (κ₂ := K (yDev c, some (5, k))) (fs := r) (q := fullShare.right)
      (r₁ := 0) (r₂ := 0) (d₁ := false) (d₂ := false) (fd := f) (mem_cell m c 4 k) (mem_cell m (yDev c) 5 k) () () (amt 5) (credit_o c k (by decide))
      ((amount_cell m c 4 k false).trans (amt_eq (by decide) (by decide))) (amount_cell m (yDev c) 5 k false)
      (O₀ := O + OY c k.val) (O + OY c (k.val + 1))
      (by rw [OY_peel c k.isLt]; exact (add_assoc _ _ _).symm) (W := W) (pay_ys m c k r hr) (pay_yr m c k f r hr)) $$ [Hr Hf HO Ht Ht']
  · isplitr; · iapply (ctx_inv m K c 4 k); iexact Hctx
    isplitr; · iapply (ctx_inv m K (yDev c) 5 k); iexact Hctx
    isplitl [Hr]; · iexact Hr
    isplitl [Hf]; · iexact Hf
    isplitl [HO]; · iexact HO
    isplitl [Ht]; · iexact Ht
    isplitr; · iapply (ctx_reached m K c 4 k); iexact Hctx
    isplitl [Ht']; · iexact Ht'
    iapply (ctx_reached m K (yDev c) 5 k); iexact Hctx
  iintro ⟨Hc, HO⟩
  iapply Hk
  isplitl [Hc]; · rw [amt_eq (a := 4) (b := 5) (by decide) (by decide)]; iexact Hc
  iexists W; iexact HO

end Transfers

/-! ## Computations -/

section Compute
variable (c : Dev nD) (k : Fin 64)

/-- Reading a float32 slot touches that slot alone. -/
theorem slot_f : (fB.view : View sig .tc .vmem S2x256x1024 .f32).setOn (slotR k).toLoadRect.set ⊆ (fC k).view.set := by
  rw [show (fC k).view.set = (fB.view.slice (slotR k)).set from View.set_reshape _ _, View.set_slice]; exact subset_rfl
/-- Reading a bfloat16 slot touches that slot alone. -/
theorem slot_b : (bB.view : View sig .tc .vmem S2x256x1024 .bf16).setOn (slotR k).toLoadRect.set ⊆ (bC k).view.set := by
  rw [show (bC k).view.set = (bB.view.slice (slotR k)).set from View.set_reshape _ _, View.set_slice]; exact subset_rfl
/-- Writing a bfloat16 slot touches that slot alone. -/
theorem slot_b_store : (bB.access (slotR k)).setOn Finset.univ ⊆ (bC k).view.set := by
  rw [show (bC k).view.set = (bB.view.slice (slotR k)).set from View.set_reshape _ _]
  exact subset_rfl
/-- Reading a chunk of the receive buffer touches that chunk alone. -/
theorem chunk_r : (rB.view : View sig .tc .vmem S16384x1024 .bf16).setOn (chunkR k).toLoadRect.set ⊆ (rC k).view.set := by
  rw [show (rC k).view.set = (rB.view.slice (chunkR k)).set from rfl, View.set_slice]; exact subset_rfl
/-- Writing a chunk of the receive buffer touches that chunk alone. -/
theorem chunk_r_store : (rB.access (chunkR k)).setOn Finset.univ ⊆ (rC k).view.set := subset_rfl

/-- Rounding a slot: the bfloat16 slot ends with the float32 slot's rows rounded. -/
theorem wp_castStep (X : S256x1024.Idx → Elt F .f32) {Q : PUnit → sProp 𝕄} {P : Pg F} :
    iprop(owns (c : Thread nD τ) (fC k) fullShare X ∗ any c (bC k))
      ⊢ iprop((owns (c : Thread nD τ) (fC k) fullShare X
            ∗ owns (c : Thread nD τ) (bC k) fullShare (truncf .bf16 (X : FVec F S256x1024 .f32) bitsLt_bf16_f32 : FVec F S256x1024 .bf16) -∗ runs c P Q)
          -∗ runs c (castStep k P) Q) := by
  unfold castStep any owns
  iintro ⟨⟨%f, %hf, Hf⟩, ⟨%Y, %g, %hg, Hg⟩⟩ Hk
  iapply (wp_load 𝒱₀ (c : Thread nD τ) none Set.univ (m := fB) (r := (slotR k).toLoadRect) (S := (fC k).view.set) (f := f) (q := fullShare) (slot_f k)) $$ Hf; iintro Hf
  iapply (wp_load 𝒱₀ (c : Thread nD τ) none Set.univ (m := bB) (r := (slotR k).toLoadRect) (S := (bC k).view.set) (f := g) (q := fullShare) (slot_b k)) $$ Hg; iintro Hg
  iapply (wp_store 𝒱₀ (c : Thread nD τ) none Set.univ (m := bB) (r := slotR k) (Mk := Finset.univ) (S := (bC k).view.set) (f := g) (slot_b_store k)) $$ Hg; iintro Hg
  iapply Hk
  isplitl [Hf]
  · iexists f; isplitr; rotate_left
    · iexact Hf
    · ipureintro; exact hf
  · iexists _; isplitr; rotate_left
    · iexact Hg
    · ipureintro; exact (read_cast k f g).trans (by rw [hf])

/-- The addition: the chunk ends with what it held plus the slot's rows, of which any share is enough. -/
theorem wp_addStep (q : PosShare TreeShare) (X Y : S256x1024.Idx → Elt F .bf16) {Q : PUnit → sProp 𝕄} {P : Pg F} :
    iprop(owns (c : Thread nD τ) (rC k) fullShare X ∗ owns (c : Thread nD τ) (bC k) q Y)
      ⊢ iprop((owns (c : Thread nD τ) (rC k) fullShare (addf (X : FVec F S256x1024 .bf16) Y : FVec F S256x1024 .bf16)
            ∗ owns (c : Thread nD τ) (bC k) q Y -∗ runs c P Q)
          -∗ runs c (addStep k P) Q) := by
  unfold addStep owns
  iintro ⟨⟨%f, %hf, Hf⟩, ⟨%g, %hg, Hg⟩⟩ Hk
  iapply (wp_load 𝒱₀ (c : Thread nD τ) none Set.univ (m := rB) (r := (chunkR k).toLoadRect) (S := (rC k).view.set) (f := f) (q := fullShare) (chunk_r k)) $$ Hf; iintro Hf
  iapply (wp_load 𝒱₀ (c : Thread nD τ) none Set.univ (m := bB) (r := (slotR k).toLoadRect) (S := (bC k).view.set) (f := g) (q := q) (slot_b k)) $$ Hg; iintro Hg
  iapply (wp_load 𝒱₀ (c : Thread nD τ) none Set.univ (m := rB) (r := (chunkR k).toLoadRect) (S := (rC k).view.set) (f := f) (q := fullShare) (chunk_r k)) $$ Hf; iintro Hf
  iapply (wp_store 𝒱₀ (c : Thread nD τ) none Set.univ (m := rB) (r := chunkR k) (Mk := Finset.univ) (S := (rC k).view.set) (f := f) (chunk_r_store k)) $$ Hf; iintro Hf
  iapply Hk
  isplitl [Hf]
  · iexists _; isplitr; rotate_left
    · iexact Hf
    · ipureintro; exact (read_add k f f g).trans (by rw [hf, hg])
  · iexists g; isplitr; rotate_left
    · iexact Hg
    · ipureintro; exact hg

end Compute

/-! ## The handshake -/

/-- The handshake: two signals hand over this device's buffers, and the wait brings the neighbours'. -/
theorem wp_handshake (c : Dev nD) {Q : PUnit → sProp 𝕄} {P : Pg F} :
    iprop(ctx m K ∗ ow c (O₀ c) ∗ dutyTok ER (barCell (xDev c)) 0 false ∗ dutyTok ER (barCell (yDev c)) 0 true
        ∗ barPay (xDev c) false ∗ barPay (yDev c) true ∗ cred (tallyAt (barCell c) () 2) ∗ atPos ER (barCell c) 0 ∅ 0)
      ⊢ iprop(((ow c (OX c 0 + OY c 0) ∗ atPos ER (barCell c) 1 ∅ 0 ∗ barPay c false ∗ barPay c true) -∗ runs c P Q)
          -∗ runs c (handshake c P) Q) := by
  unfold handshake ow
  iintro ⟨#Hctx, ⟨%W, HO⟩, Ht, Ht', Hp, Hp', Hc, Hat⟩ Hk
  iapply (Rounds.wp_signal 𝒱₀ ER (Rd m) (c : Thread nD τ) none (dst := (xDev c : Thread nD τ)) (sem := barS) (κ := K (xDev c, none)) (r := 0)
      (d := false) (mem_bar m (xDev c) false) (amount_bar m (xDev c) false) () (O₁ c) rfl) $$ [HO Ht Hp]
  · isplitr; · iapply (ctx_bar m K (xDev c)); iexact Hctx
    isplitl [HO]; · iexact HO
    isplitl [Ht]; · iexact Ht
    isplitl [Hp]; · rw [payload_bar]; iexact Hp
    iapply (ctx_bar_reached m K (xDev c)); iexact Hctx
  iintro HO
  iapply (Rounds.wp_signal 𝒱₀ ER (Rd m) (c : Thread nD τ) none (dst := (yDev c : Thread nD τ)) (sem := barS) (κ := K (yDev c, none)) (r := 0)
      (d := true) (mem_bar m (yDev c) true) (amount_bar m (yDev c) true) () (OX c 0 + OY c 0) rfl) $$ [HO Ht' Hp']
  · isplitr; · iapply (ctx_bar m K (yDev c)); iexact Hctx
    isplitl [HO]; · iexact HO
    isplitl [Ht']; · iexact Ht'
    isplitl [Hp']; · rw [payload_bar]; iexact Hp'
    iapply (ctx_bar_reached m K (yDev c)); iexact Hctx
  iintro HO
  iapply (Rounds.wp_wait_rest_token 𝒱₀ ER (Rd m) (c : Thread nD τ) none (κ := K (c, none)) (wpE_semWait_eq 𝒱₀ (c : Thread nD τ) none Set.univ)
      (Set.mem_univ _) () (O := OX c 0 + OY c 0) (W := W) (R := 0) (m := 0) (T := ∅) (by rw [expect_bar])) $$ [Hc HO Hat]
  · isplitr; · iapply (ctx_bar m K c); iexact Hctx
    isplitl [Hc]; · iexact Hc
    isplitl [HO]; · iexact HO
    isplitr
    · iapply (mayWait_below c (.reg barS) 0 0 (by rw [lv_bar]; decide) (by rw [lv_bar]; decide)); iapply (ctx_lev m K); iexact Hctx
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

end Cert.AllReduce

end
-- ==== Proof.Body.lean ====
/- The body, by induction over the chunks.

   `Rest c j` is what device `c` holds between two issued chunks, chunks before `j` issued: the loads under way, the two
   slots, what the chunks still to be issued need, what the issued ones left. `Round c k` adds what the loop's `k`-th round
   and those after it need and what the earlier ones left. -/
module

public import proofs.«01_k».proof.Proof.Steps

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Cell → ℕ)

/-! ## The payloads, one by one -/

section Payloads
variable (c : Dev nD) (k : Fin 64)
/-- What a load hands over. -/
theorem dmaPay_0 : dmaPay m c 0 k = iprop(owns (c : Thread nD τ) (fC k) fullShare (xv m c k) ∗ xPt m c k) := rfl
/-- What a store in the result hands over. -/
theorem dmaPay_1 : dmaPay m c 1 k = iprop(owns (c : Thread nD τ) (oC c k) fullShare (sv m c k) ∗ owns (c : Thread nD τ) (rC k) fullShare.left (sv m c k)) := rfl
/-- What a transfer along x hands back. -/
theorem dmaPay_2 : dmaPay m c 2 k = owns (c : Thread nD τ) (bC k) fullShare.left (bv m c k) := rfl
/-- What arrives along x. -/
theorem dmaPay_3 : dmaPay m c 3 k = owns (c : Thread nD τ) (rC k) fullShare (bv m (xDev c) k) := rfl
/-- What a transfer along y hands back. -/
theorem dmaPay_4 : dmaPay m c 4 k = owns (c : Thread nD τ) (rC k) fullShare.right (sv m c k) := rfl
/-- What arrives along y. -/
theorem dmaPay_5 : dmaPay m c 5 k = owns (c : Thread nD τ) (oC (yDev c) k) fullShare (sv m (yDev c) k) := rfl
end Payloads

/-- A conjunction over the members of a set, of two things each. -/
theorem all_sep {I : Type} (s : Finset I) (A B : I → sProp 𝕄) : bigSep s (fun i => iprop(A i ∗ B i)) = iprop(bigSep s A ∗ bigSep s B) := bigSep_sep s A B

/-! ## A loop over chunks -/

/-- A loop whose step `k` leads from `I k` to `I (k + 1)` leads to `I 64`. -/
theorem loop (c : Dev nD) (step : Fin 64 → Pg F → Pg F) (I : ℕ → sProp 𝕄) {Q : PUnit → sProp 𝕄} {P : Pg F}
    (h : ∀ (k : Fin 64) (P : Pg F), I k.val ⊢ iprop((I (k.val + 1) -∗ runs c P Q) -∗ runs c (step k P) Q)) :
    ∀ n, n ≤ 64 → I (64 - n) ⊢ iprop((I 64 -∗ runs c P Q) -∗ runs c (lastChunks step n P) Q)
  | 0, _ => by
      iintro H Hk; iapply Hk; iexact H
  | n + 1, hn => by
      have ih := loop c step I (P := P) h n (by omega)
      have hs := h ⟨63 - n, by omega⟩ (lastChunks step n P)
      rw [show 64 - (n + 1) = 63 - n from by omega]
      rw [show (⟨63 - n, by omega⟩ : Fin 64).val + 1 = 64 - n from by dsimp only; omega] at hs
      unfold lastChunks
      iintro H Hk
      iapply hs $$ H
      iintro H
      iapply ih $$ H
      iexact Hk

/-! ## What is held -/

/-- A sent chunk: the credit of its source side, the half of its slot that stayed. -/
def Sent (c : Dev nD) (k : Fin 64) : sProp 𝕄 := iprop(cr c 2 k ∗ owns (c : Thread nD τ) (bC k) fullShare.right (bv m c k))
/-- The float32 slot of chunk `j`: its load under way, or the slot free when no chunk is left. -/
def Load (c : Dev nD) (j : ℕ) : sProp 𝕄 := if h : j < 64 then cr c 0 ⟨j, h⟩ else any c (fC ⟨j % 2, by omega⟩)
/-- The bfloat16 slot of chunk `j` before it is issued: the chunk two before it in it, or the slot free at the start. -/
def Slot (c : Dev nD) (j : ℕ) : sProp 𝕄 := if h : 2 ≤ j ∧ j - 2 < 64 then Sent m c ⟨j - 2, h.2⟩ else any c (bC ⟨j % 2, by omega⟩)

/-- The float32 slot of a chunk that is being loaded. -/
theorem load_lt (c : Dev nD) (k : Fin 64) : cr (F := F) c 0 k = Load c k.val := by
  unfold Load; rw [dif_pos k.isLt]
/-- The float32 slots after the last chunk are free. -/
theorem load_top (c : Dev nD) (a : Fin 2) : Load (F := F) c (64 + a.val) = any c (fC ⟨a.val, by omega⟩) := by
  have ha := a.isLt
  unfold Load
  rw [dif_neg (by omega)]
  exact congrArg (fun k => any c (fC k)) (Fin.ext (by dsimp only; omega))
/-- The bfloat16 slots before the first two chunks are free. -/
theorem slot_lt (c : Dev nD) (k : Fin 64) (h : k.val < 2) : any (F := F) c (bC k) = Slot m c k.val := by
  unfold Slot
  rw [dif_neg (by omega)]
  exact congrArg (fun k => any c (bC k)) (Fin.ext (by dsimp only; omega))

/-- Needed to start the load of a chunk. -/
def A1 (c : Dev nD) (k : Fin 64) : sProp 𝕄 := iprop(xPt m c k ∗ tk c 0 k)
/-- Needed to issue a chunk. -/
def A2 (c : Dev nD) (k : Fin 64) : sProp 𝕄 := iprop(ps c 0 k ∗ tk c 2 k ∗ tk (xDev c) 3 k ∗ any (xDev c) (rC k))
/-- Needed for a chunk's round of the loop. -/
def A3 (c : Dev nD) (k : Fin 64) : sProp 𝕄 :=
  iprop(ps c 3 k ∗ cr c 3 k ∗ tk c 1 k ∗ any c (oC c k) ∗ tk c 4 k ∗ tk (yDev c) 5 k ∗ any (yDev c) (oC c k))
/-- Left by an issued chunk. -/
def B2 (c : Dev nD) (k : Fin 64) : sProp 𝕄 := iprop(pd c 0 k ∗ xPt m c k)
/-- Left by a chunk's round of the loop. -/
def B3 (c : Dev nD) (k : Fin 64) : sProp 𝕄 := iprop(pd c 3 k ∗ cr c 1 k ∗ cr c 4 k)

/-- What is held, beside what is owed, when `j` chunks are issued. -/
def Rest (c : Dev nD) (j : ℕ) : sProp 𝕄 :=
  iprop(Load c j ∗ Load c (j + 1) ∗ Slot m c j ∗ Slot m c (j + 1) ∗ up (j + 2) (A1 m c) ∗ up j (A2 c) ∗ dn j (B2 m c)
    ∗ up (j - 2) (ps c 2) ∗ dn (j - 2) (pd c 2))

/-! ## One chunk issued -/

section Issue
variable (c : Dev nD) (k : Fin 64) (n : ℕ) {Q : PUnit → sProp 𝕄} {P : Pg F}

/-- Chunks of the same parity share a bfloat16 slot. -/
theorem any_bC {j k : Fin 64} (h : j.val % 2 = k.val % 2) : any (F := F) c (bC j) = any c (bC k) := by rw [bC_eq h]
/-- Chunks of the same parity share a float32 slot. -/
theorem any_fC {j k : Fin 64} (h : j.val % 2 = k.val % 2) : any (F := F) c (fC j) = any c (fC k) := by rw [fC_eq h]
/-- A view with known contents is a view with some contents. -/
theorem any_intro {sp : Space} {sh : Shape} {e : EltTy} (M : Memref sig .tc sp sh e) (X : sh.Idx → Elt F e) :
    owns (c : Thread nD τ) M fullShare X ⊢ any c M := by unfold any; iintro H; iexists X; iexact H

/-- The slot of chunk `k` is free once the chunk two before it has left. -/
theorem wp_slotFree {Q : PUnit → sProp 𝕄} {P : Pg F} :
    iprop(ctx m K ∗ Slot m c k.val ∗ up (k.val - 2) (ps c 2) ∗ dn (k.val - 2) (pd c 2) ∗ ow c (OX c k.val + OY c n))
      ⊢ iprop((any c (bC k) ∗ up (k.val + 1 - 2) (ps c 2) ∗ dn (k.val + 1 - 2) (pd c 2) ∗ ow c (OX c k.val + OY c n) -∗ runs c P Q)
          -∗ runs c ((if 2 ≤ k.val then waitXs ⟨k.val - 2, by omega⟩ else id) P) Q) := by
  by_cases h : 2 ≤ k.val
  · have hk : k.val - 2 < 64 := by omega
    rw [if_pos h, show k.val + 1 - 2 = k.val - 2 + 1 from by omega, up_peel _ hk, dn_peel _ hk]
    unfold Slot; rw [dif_pos ⟨h, hk⟩]; unfold Sent
    iintro ⟨#Hctx, ⟨Hc, Hb⟩, ⟨Hp, Hps⟩, Hpd, HO⟩ Hk
    iapply (wp_waitXs m K c ⟨k.val - 2, hk⟩ k.val n (by omega)) $$ [Hc Hp HO]
    · isplitr; · iexact Hctx
      isplitl [Hc]; · iexact Hc
      isplitl [Hp] <;> iassumption
    iintro ⟨Hp, HO, Hl⟩
    iapply Hk
    isplitl [Hb Hl]
    · rw [← any_bC c (show (⟨k.val - 2, hk⟩ : Fin 64).val % 2 = k.val % 2 from by dsimp only; omega)]
      iapply (any_intro c (bC ⟨k.val - 2, hk⟩) (bv m c ⟨k.val - 2, hk⟩))
      iapply (owns_halves _ _ _ _).2
      isplitl [Hl]; · rw [← dmaPay_2]; iexact Hl
      iexact Hb
    isplitl [Hps]; · iexact Hps
    isplitl [Hp Hpd]
    · isplitl [Hp] <;> iassumption
    iexact HO
  · rw [if_neg h, show k.val + 1 - 2 = k.val - 2 from by omega]
    unfold Slot; rw [dif_neg (fun h' => h h'.1), any_bC c (show (⟨k.val % 2, by omega⟩ : Fin 64).val % 2 = k.val % 2 from by dsimp only; omega)]
    iintro ⟨-, Hb, Hps, Hpd, HO⟩ Hk
    iapply Hk
    isplitl [Hb]; · iexact Hb
    isplitl [Hps]; · iexact Hps
    isplitl [Hpd] <;> iassumption

/-- The float32 slot of chunk `k`, once read, takes the load of the chunk two after it. -/
theorem wp_refill {Q : PUnit → sProp 𝕄} {P : Pg F} :
    iprop(ctx m K ∗ any c (fC k) ∗ up (k.val + 2) (A1 m c))
      ⊢ iprop((Load c (k.val + 2) ∗ up (k.val + 3) (A1 m c) -∗ runs c P Q)
          -∗ runs c ((if h : k.val + 2 < 64 then startIn c ⟨k.val + 2, h⟩ else id) P) Q) := by
  by_cases h : k.val + 2 < 64
  · rw [dif_pos h, up_peel _ h]
    unfold Load A1; rw [dif_pos h]
    iintro ⟨#Hctx, Hf, ⟨⟨Hx, Ht⟩, Hup⟩⟩ Hk
    iapply (wp_startIn m K c ⟨k.val + 2, h⟩) $$ [Hx Ht Hf]
    · isplitr; · iexact Hctx
      isplitl [Hx]; · iexact Hx
      isplitl [Hf]
      · rw [any_fC c (show (⟨k.val + 2, h⟩ : Fin 64).val % 2 = k.val % 2 from by dsimp only; omega)]; iexact Hf
      iexact Ht
    iintro Hc
    iapply Hk
    isplitl [Hc] <;> iassumption
  · rw [dif_neg h, up_top _ (by omega), up_top _ (by omega)]
    unfold Load; rw [dif_neg h, any_fC c (show (⟨(k.val + 2) % 2, by omega⟩ : Fin 64).val % 2 = k.val % 2 from by dsimp only; omega)]
    iintro ⟨-, Hf, -⟩ Hk
    iapply Hk
    isplitl [Hf]; · iexact Hf
    iempintro

/-- Issuing chunk `k`. -/
theorem wp_issue {Q : PUnit → sProp 𝕄} {P : Pg F} :
    iprop(ctx m K ∗ Rest m c k.val ∗ ow c (OX c k.val + OY c n))
      ⊢ iprop((Rest m c (k.val + 1) ∗ ow c (OX c (k.val + 1) + OY c n) -∗ runs c P Q) -∗ runs c (issue c k P) Q) := by
  unfold Rest issue
  rw [up_peel (A2 c) k.isLt, dn_peel (B2 m c) k.isLt]
  rw [show Load c k.val = cr (F := F) c 0 k from by unfold Load; exact dif_pos k.isLt]
  iintro ⟨#Hctx, ⟨Hl, Hl', Hs, Hs', Hup1, ⟨Ha, Hup2⟩, Hdn2, Hps, Hpd⟩, HO⟩ Hk
  unfold A2
  icases Ha with ⟨Hp, Ht, Ht', Hr⟩
  iapply (wp_waitIn m K c k k.val n (by omega)) $$ [Hl Hp HO]
  · isplitr; · iexact Hctx
    isplitl [Hl]; · iexact Hl
    isplitl [Hp] <;> iassumption
  iintro ⟨Hp, HO, Hpay⟩
  ihave Hpay' := (Entails.of_eq (dmaPay_0 m c k)) $$ Hpay
  icases Hpay' with ⟨Hf, Hx⟩
  iapply (wp_slotFree m K c k n) $$ [Hs Hps Hpd HO]
  · isplitr; · iexact Hctx
    isplitl [Hs]; · iexact Hs
    isplitl [Hps]; · iexact Hps
    isplitl [Hpd] <;> iassumption
  iintro ⟨Hb, Hps, Hpd, HO⟩
  iapply (wp_castStep c k (xv m c k)) $$ [Hf Hb]
  · isplitl [Hf] <;> iassumption
  iintro ⟨Hf, Hb⟩
  iapply (wp_refill m K c k) $$ [Hf Hup1]
  · isplitr; · iexact Hctx
    isplitl [Hf]; · iapply (any_intro c (fC k) (xv m c k)); iexact Hf
    iexact Hup1
  iintro ⟨Hl, Hup1⟩
  ihave Hb' := (show owns (c : Thread nD τ) (bC k) fullShare (truncf .bf16 (xv m c k : FVec F S256x1024 .f32) bitsLt_bf16_f32 : FVec F S256x1024 .bf16)
      ⊢ iprop(owns (c : Thread nD τ) (bC k) fullShare.left (bv m c k) ∗ owns (c : Thread nD τ) (bC k) fullShare.right (bv m c k)) from
    (owns_halves (c : Thread nD τ) (bC k) fullShare (bv m c k)).1) $$ Hb
  icases Hb' with ⟨Hbl, Hbr⟩
  iapply (wp_startX m K c k (OY c n)) $$ [Hbl Hr HO Ht Ht']
  · isplitr; · iexact Hctx
    isplitl [Hbl]; · iexact Hbl
    isplitl [Hr]; · iexact Hr
    isplitl [HO]; · iexact HO
    isplitl [Ht] <;> iassumption
  iintro ⟨Hc, HO⟩
  iapply Hk
  isplitr [HO]; rotate_left
  · iexact HO
  isplitl [Hl']; · iexact Hl'
  isplitl [Hl]; · iexact Hl
  isplitl [Hs']; · iexact Hs'
  isplitl [Hc Hbr]
  · unfold Slot; rw [dif_pos ⟨by omega, by omega⟩]
    unfold Sent
    rw [show (⟨k.val + 1 + 1 - 2, by omega⟩ : Fin 64) = k from Fin.ext (by dsimp only; omega)]
    isplitl [Hc] <;> iassumption
  isplitl [Hup1]; · iexact Hup1
  isplitl [Hup2]; · iexact Hup2
  isplitl [Hp Hx Hdn2]
  · isplitl [Hp Hx]
    · unfold B2; isplitl [Hp] <;> iassumption
    iexact Hdn2
  isplitl [Hps] <;> iassumption

end Issue

/-! ## One round of the loop -/

section Round
variable (c : Dev nD)

/-- Before round `k`: two chunks more than `k` are issued, as long as there are any. -/
def Round (k : ℕ) : sProp 𝕄 :=
  iprop(ow c (OX c (min (k + 2) 64) + OY c k) ∗ Rest m c (min (k + 2) 64) ∗ up k (A3 c) ∗ dn k (B3 c))

/-- Chunk `k`, issued and not yet overwritten, is among what is held before its round. -/
theorem rest_sent (k : Fin 64) :
    Rest m c (min (k.val + 2) 64) ⊢ iprop(Sent m c k ∗ (Sent m c k -∗ Rest m c (min (k.val + 2) 64))) := by
  have hk := k.isLt
  unfold Rest
  by_cases h : k.val + 2 ≤ 64
  · rw [min_eq_left h]
    have hs : Slot m c (k.val + 2) = Sent m c k := by
      unfold Slot; rw [dif_pos ⟨by omega, by omega⟩]; rfl
    rw [hs]
    iintro ⟨Hl, Hl', Hs, Hs', H⟩
    isplitl [Hs]; · iexact Hs
    iintro Hs
    isplitl [Hl]; · iexact Hl
    isplitl [Hl']; · iexact Hl'
    isplitl [Hs]; · iexact Hs
    isplitl [Hs']; · iexact Hs'
    iexact H
  · rw [min_eq_right (by omega)]
    have hs : Slot m c (64 + 1) = Sent m c k := by
      unfold Slot; rw [dif_pos ⟨by omega, by omega⟩]
      exact congrArg (Sent m c) (Fin.ext (by dsimp only; omega))
    rw [hs]
    iintro ⟨Hl, Hl', Hs, Hs', H⟩
    isplitl [Hs']; · iexact Hs'
    iintro Hs'
    isplitl [Hl]; · iexact Hl
    isplitl [Hl']; · iexact Hl'
    isplitl [Hs]; · iexact Hs
    isplitl [Hs']; · iexact Hs'
    iexact H

/-- The chunk two after `k`, if there is one, is issued. -/
theorem wp_next (k : Fin 64) (n : ℕ) {Q : PUnit → sProp 𝕄} {P : Pg F} :
    iprop(ctx m K ∗ Rest m c (min (k.val + 2) 64) ∗ ow c (OX c (min (k.val + 2) 64) + OY c n))
      ⊢ iprop((Rest m c (min (k.val + 1 + 2) 64) ∗ ow c (OX c (min (k.val + 1 + 2) 64) + OY c n) -∗ runs c P Q)
          -∗ runs c ((if h : k.val + 2 < 64 then issue c ⟨k.val + 2, h⟩ else id) P) Q) := by
  have hk := k.isLt
  by_cases h : k.val + 2 < 64
  · rw [dif_pos h, min_eq_left (by omega), min_eq_left (by omega)]
    exact wp_issue m K c ⟨k.val + 2, h⟩ n
  · rw [dif_neg h, min_eq_right (by omega), min_eq_right (by omega)]
    iintro ⟨-, H⟩ Hk
    iapply Hk; iexact H

/-- Round `k`: the neighbour's chunk arrives, is summed with the own one, stored and sent on. -/
theorem wp_round (k : Fin 64) {Q : PUnit → sProp 𝕄} {P : Pg F} :
    iprop(ctx m K ∗ Round m c k.val) ⊢ iprop((ctx m K ∗ Round m c (k.val + 1) -∗ runs c P Q) -∗ runs c (chunkStep c k P) Q) := by
  have hk := k.isLt
  unfold Round chunkStep
  rw [up_peel (A3 c) hk, dn_peel (B3 c) hk]
  iintro ⟨#Hctx, HO, HR, ⟨Ha, Hup⟩, Hdn⟩ Hk
  unfold A3
  icases Ha with ⟨Hp, Hc, Ht1, Ho, Ht4, Ht5, Ho'⟩
  iapply (wp_waitXr m K c k (min (k.val + 2) 64) k.val (by omega)) $$ [Hc Hp HO]
  · isplitr; · iexact Hctx
    isplitl [Hc]; · iexact Hc
    isplitl [Hp] <;> iassumption
  iintro ⟨Hp, HO, Hr⟩
  ihave Hr' := (Entails.of_eq (dmaPay_3 m c k)) $$ Hr
  ihave HS := (rest_sent m c k) $$ HR
  unfold Sent
  icases HS with ⟨⟨Hc, Hb⟩, Hback⟩
  iapply (wp_addStep c k fullShare.right (bv m (xDev c) k) (bv m c k)) $$ [Hr' Hb]
  · isplitl [Hr'] <;> iassumption
  iintro ⟨Hr, Hb⟩
  ihave HR := Hback $$ [Hc Hb]
  · isplitl [Hc] <;> iassumption
  ihave Hr' := (show owns (c : Thread nD τ) (rC k) fullShare (addf (bv m (xDev c) k : FVec F S256x1024 .bf16) (bv m c k) : FVec F S256x1024 .bf16)
      ⊢ iprop(owns (c : Thread nD τ) (rC k) fullShare.left (sv m c k) ∗ owns (c : Thread nD τ) (rC k) fullShare.right (sv m c k)) from
    (owns_halves (c : Thread nD τ) (rC k) fullShare (sv m c k)).1) $$ Hr
  icases Hr' with ⟨Hrl, Hrr⟩
  iapply (wp_startSt m K c k) $$ [Hrl Ho Ht1]
  · isplitr; · iexact Hctx
    isplitl [Hrl]; · iexact Hrl
    isplitl [Ho] <;> iassumption
  iintro Hc1
  iapply (wp_startY m K c k (OX c (min (k.val + 2) 64))) $$ [Hrr Ho' HO Ht4 Ht5]
  · isplitr; · iexact Hctx
    isplitl [Hrr]; · iexact Hrr
    isplitl [Ho']; · iexact Ho'
    isplitl [HO]; · iexact HO
    isplitl [Ht4] <;> iassumption
  iintro ⟨Hc4, HO⟩
  iapply (wp_next m K c k (k.val + 1)) $$ [HR HO]
  · isplitr; · iexact Hctx
    isplitl [HR] <;> iassumption
  iintro ⟨HR, HO⟩
  iapply Hk
  isplitr; · iexact Hctx
  isplitl [HO]; · iexact HO
  isplitl [HR]; · iexact HR
  isplitl [Hup]; · iexact Hup
  isplitl [Hp Hc1 Hc4]
  · unfold B3
    isplitl [Hp]; · iexact Hp
    isplitl [Hc1] <;> iassumption
  iexact Hdn

end Round

/-! ## After the loop -/

section Tail
variable (c : Dev nD)

/-- The sums of the other half of the rows arrive. -/
def InYr (k : ℕ) : sProp 𝕄 :=
  iprop(ow c (OX c 64 + OY c 64) ∗ up k (fun k => iprop(ps c 5 k ∗ cr c 5 k))
    ∗ dn k (fun k => iprop(pd c 5 k ∗ owns (c : Thread nD τ) (oC (yDev c) k) fullShare (sv m (yDev c) k))))

/-- One more sum has arrived along y. -/
theorem wp_inYr (k : Fin 64) {Q : PUnit → sProp 𝕄} {P : Pg F} :
    iprop(ctx m K ∗ InYr m c k.val) ⊢ iprop((ctx m K ∗ InYr m c (k.val + 1) -∗ runs c P Q) -∗ runs c (waitYr c k P) Q) := by
  unfold InYr
  rw [up_peel _ k.isLt, dn_peel _ k.isLt]
  iintro ⟨#Hctx, HO, ⟨⟨Hp, Hc⟩, Hup⟩, Hdn⟩ Hk
  iapply (wp_waitYr m K c k 64 64 (le_refl _) (le_refl _)) $$ [Hc Hp HO]
  · isplitr; · iexact Hctx
    isplitl [Hc]; · iexact Hc
    isplitl [Hp] <;> iassumption
  iintro ⟨Hp, HO, Ho⟩
  iapply Hk
  isplitr; · iexact Hctx
  isplitl [HO]; · iexact HO
  isplitl [Hup]; · iexact Hup
  isplitl [Hp Ho]
  · isplitl [Hp]; · iexact Hp
    rw [← dmaPay_5]; iexact Ho
  iexact Hdn

/-- The device's own sums have left, to its result and to the neighbour's. -/
def OutY (k : ℕ) : sProp 𝕄 :=
  iprop(ow c (OX c 64 + OY c 64) ∗ up k (fun k => iprop((ps c 4 k ∗ cr c 4 k) ∗ ps c 1 k ∗ cr c 1 k))
    ∗ dn k (fun k => iprop((pd c 4 k ∗ pd c 1 k) ∗ owns (c : Thread nD τ) (oC c k) fullShare (sv m c k) ∗ any c (rC k))))

/-- One more sum has left, along y and to the result. -/
theorem wp_outY (k : Fin 64) {Q : PUnit → sProp 𝕄} {P : Pg F} :
    iprop(ctx m K ∗ OutY m c k.val)
      ⊢ iprop((ctx m K ∗ OutY m c (k.val + 1) -∗ runs c P Q) -∗ runs c (waitYs c k (waitSt c k P)) Q) := by
  unfold OutY
  rw [up_peel _ k.isLt, dn_peel _ k.isLt]
  iintro ⟨#Hctx, HO, ⟨⟨⟨Hp, Hc⟩, ⟨Hp', Hc'⟩⟩, Hup⟩, Hdn⟩ Hk
  iapply (wp_waitYs m K c k 64 64 (by omega)) $$ [Hc Hp HO]
  · isplitr; · iexact Hctx
    isplitl [Hc]; · iexact Hc
    isplitl [Hp] <;> iassumption
  iintro ⟨Hp, HO, Hr⟩
  iapply (wp_waitSt m K c k 64 64 (by omega)) $$ [Hc' Hp' HO]
  · isplitr; · iexact Hctx
    isplitl [Hc']; · iexact Hc'
    isplitl [Hp'] <;> iassumption
  iintro ⟨Hp', HO, Ho⟩
  ihave Ho' := (Entails.of_eq (dmaPay_1 m c k)) $$ Ho
  icases Ho' with ⟨Ho, Hl⟩
  iapply Hk
  isplitr; · iexact Hctx
  isplitl [HO]; · iexact HO
  isplitl [Hup]; · iexact Hup
  isplitl [Hp Hp' Ho Hl Hr]
  · isplitl [Hp Hp']
    · isplitl [Hp] <;> iassumption
    isplitl [Ho]; · iexact Ho
    iapply (any_intro c (rC k) (sv m c k))
    iapply (owns_halves _ _ _ _).2
    isplitl [Hl]; · iexact Hl
    rw [← dmaPay_4]; iexact Hr
  iexact Hdn

/-- The last two sends have left. -/
theorem wp_lastXs {Q : PUnit → sProp 𝕄} {P : Pg F} :
    iprop(ctx m K ∗ Slot m c 64 ∗ Slot m c (64 + 1) ∗ up (64 - 2) (ps c 2) ∗ dn (64 - 2) (pd c 2) ∗ ow c (OX c 64 + OY c 64))
      ⊢ iprop((any c (bC 0) ∗ any c (bC 1) ∗ dn 64 (pd c 2) ∗ ow c (OX c 64 + OY c 64) -∗ runs c P Q) -∗ runs c (lastChunks waitXs 2 P) Q) := by
  have h0 : Slot m c 64 = Sent m c 62 := by unfold Slot; rw [dif_pos ⟨by omega, by omega⟩]; rfl
  have h1 : Slot m c (64 + 1) = Sent m c 63 := by unfold Slot; rw [dif_pos ⟨by omega, by omega⟩]; rfl
  rw [h0, h1, up_peel _ (show 64 - 2 < 64 by omega), up_peel _ (show 64 - 2 + 1 < 64 by omega), dn_peel (n := 63) _ (by omega), dn_peel (n := 62) _ (by omega)]
  unfold Sent
  rw [show lastChunks waitXs 2 P = waitXs 62 (waitXs 63 P) from rfl]
  iintro ⟨#Hctx, ⟨Hc, Hb⟩, ⟨Hc', Hb'⟩, ⟨Hp, Hp', -⟩, Hdn, HO⟩ Hk
  iapply (wp_waitXs m K c 62 64 64 (by omega)) $$ [Hc Hp HO]
  · isplitr; · iexact Hctx
    isplitl [Hc]; · iexact Hc
    isplitl [Hp]; · iexact Hp
    iexact HO
  iintro ⟨Hp, HO, Hl⟩
  iapply (wp_waitXs m K c 63 64 64 (by omega)) $$ [Hc' Hp' HO]
  · isplitr; · iexact Hctx
    isplitl [Hc']; · iexact Hc'
    isplitl [Hp']; · iexact Hp'
    iexact HO
  iintro ⟨Hp', HO, Hl'⟩
  iapply Hk
  isplitl [Hl Hb]
  · rw [any_bC c (show (0 : Fin 64).val % 2 = (62 : Fin 64).val % 2 from rfl)]
    iapply (any_intro c (bC 62) (bv m c 62))
    iapply (owns_halves _ _ _ _).2
    isplitl [Hl]; · rw [← dmaPay_2]; iexact Hl
    iexact Hb
  isplitl [Hl' Hb']
  · rw [any_bC c (show (1 : Fin 64).val % 2 = (63 : Fin 64).val % 2 from rfl)]
    iapply (any_intro c (bC 63) (bv m c 63))
    iapply (owns_halves _ _ _ _).2
    isplitl [Hl']; · rw [← dmaPay_2]; iexact Hl'
    iexact Hb'
  isplitr [HO]; rotate_left
  · iexact HO
  isplitl [Hp']; · iexact Hp'
  isplitl [Hp]; · iexact Hp
  iexact Hdn

end Tail

/-! ## The whole body -/

section Whole
variable (c : Dev nD)

/-- What the body needs for chunk `k`, apart from what the handshake hands over. -/
def Each (k : Fin 64) : sProp 𝕄 :=
  iprop(A1 m c k ∗ (ps c 0 k ∗ tk c 2 k ∗ tk (xDev c) 3 k) ∗ (ps c 3 k ∗ cr c 3 k ∗ tk c 1 k ∗ any c (oC c k) ∗ tk c 4 k ∗ tk (yDev c) 5 k)
    ∗ ps c 2 k ∗ (ps c 5 k ∗ cr c 5 k) ∗ ps c 4 k ∗ ps c 1 k)
/-- What the body leaves of chunk `k`. -/
def Left (k : Fin 64) : sProp 𝕄 :=
  iprop((pd c 0 k ∗ xPt m c k) ∗ pd c 3 k ∗ pd c 2 k ∗ (pd c 5 k ∗ owns (c : Thread nD τ) (oC (yDev c) k) fullShare (sv m (yDev c) k))
    ∗ ((pd c 4 k ∗ pd c 1 k) ∗ owns (c : Thread nD τ) (oC c k) fullShare (sv m c k) ∗ any c (rC k)))

/-- The two float32 and the two bfloat16 slots. -/
def Slots : sProp 𝕄 := iprop((any c (fC 0) ∗ any c (fC 1)) ∗ any c (bC 0) ∗ any c (bC 1))

/-- What the body needs beside the chunks. -/
def Shake : sProp 𝕄 :=
  iprop(dutyTok ER (barCell (xDev c)) 0 false ∗ dutyTok ER (barCell (yDev c)) 0 true ∗ barPay (xDev c) false ∗ barPay (yDev c) true
    ∗ cred (tallyAt (barCell c) () 2) ∗ atPos ER (barCell c) 0 ∅ 0)

/-- What the body starts with, sorted by where it is needed. -/
theorem each_split : bigSep Finset.univ (Each m c) = iprop(bigSep Finset.univ (A1 m c)
    ∗ bigSep Finset.univ (fun k => iprop(ps c 0 k ∗ tk c 2 k ∗ tk (xDev c) 3 k))
    ∗ bigSep Finset.univ (fun k => iprop(ps c 3 k ∗ cr c 3 k ∗ tk c 1 k ∗ any c (oC c k) ∗ tk c 4 k ∗ tk (yDev c) 5 k))
    ∗ bigSep Finset.univ (ps c 2) ∗ bigSep Finset.univ (fun k => iprop(ps c 5 k ∗ cr c 5 k))
    ∗ bigSep Finset.univ (ps c 4) ∗ bigSep Finset.univ (ps c 1)) := by
  unfold Each
  simp only [all_sep]

/-- With the neighbour's receive buffer, all that issuing the chunks needs. -/
theorem a2_join : iprop(bigSep Finset.univ (fun k => iprop(ps (F := F) c 0 k ∗ tk c 2 k ∗ tk (xDev c) 3 k)) ∗ barPay c false) ⊢ bigSep Finset.univ (A2 c) := by
  unfold A2 barPay
  rw [if_neg Bool.false_ne_true]
  simp only [all_sep]
  iintro ⟨⟨H1, H2, H3⟩, H4⟩
  isplitl [H1]; · iexact H1
  isplitl [H2]; · iexact H2
  isplitl [H3]; · iexact H3
  iexact H4

/-- With half of the neighbour's result, all that the loop's rounds need. -/
theorem a3_join : iprop(bigSep Finset.univ (fun k => iprop(ps (F := F) c 3 k ∗ cr c 3 k ∗ tk c 1 k ∗ any c (oC c k) ∗ tk c 4 k ∗ tk (yDev c) 5 k)) ∗ barPay c true)
    ⊢ bigSep Finset.univ (A3 c) := by
  unfold A3 barPay
  rw [if_pos rfl]
  simp only [all_sep]
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H6]; · iexact H6
  iexact H7

/-- What the body ends with, put together chunk by chunk. -/
theorem left_join : iprop(bigSep Finset.univ (B2 m c) ∗ bigSep Finset.univ (pd c 3) ∗ bigSep Finset.univ (pd c 2)
      ∗ bigSep Finset.univ (fun k => iprop(pd c 5 k ∗ owns (c : Thread nD τ) (oC (yDev c) k) fullShare (sv m (yDev c) k)))
      ∗ bigSep Finset.univ (fun k => iprop((pd c 4 k ∗ pd c 1 k) ∗ owns (c : Thread nD τ) (oC c k) fullShare (sv m c k) ∗ any c (rC k))))
    = bigSep Finset.univ (Left m c) := by
  unfold Left B2
  simp only [all_sep]

/-- The whole body of device `c`: from the tokens, positions, credits and buffers it starts with to those it ends with. -/
theorem wp_body {Q : PUnit → sProp 𝕄} :
    iprop(ctx m K ∗ ow c (O₀ c) ∗ Shake c ∗ Slots c ∗ bigSep Finset.univ (Each m c))
      ⊢ iprop((ow c (OX c 64 + OY c 64) ∗ atPos ER (barCell c) 1 ∅ 0 ∗ Slots c ∗ bigSep Finset.univ (Left m c) -∗ runs c (.ret ⟨⟩) Q)
          -∗ runs c (bodyAt c) Q) := by
  rw [each_split, ← left_join, ← up_zero (A1 m c), up_peel (n := 0) (A1 m c) (by omega), up_peel (n := 0 + 1) (A1 m c) (by omega)]
  unfold Shake Slots bodyAt
  iintro ⟨#Hctx, HO, ⟨Ht, Ht', Hp, Hp', Hc, Hat⟩, ⟨⟨Hf, Hf'⟩, ⟨Hb, Hb'⟩⟩, ⟨Ha, Ha', Hup1⟩, Hup2, Hup3, Hps2, H5, Hps4, Hps1⟩ Hk
  unfold A1
  icases Ha with ⟨Hx, Ht0⟩
  icases Ha' with ⟨Hx', Ht0'⟩
  iapply (wp_startIn m K c 0) $$ [Hx Ht0 Hf]
  · isplitr; · iexact Hctx
    isplitl [Hx]; · iexact Hx
    isplitl [Hf]; · iexact Hf
    iexact Ht0
  iintro Hl
  iapply (wp_startIn m K c 1) $$ [Hx' Ht0' Hf']
  · isplitr; · iexact Hctx
    isplitl [Hx']; · iexact Hx'
    isplitl [Hf']; · iexact Hf'
    iexact Ht0'
  iintro Hl'
  iapply (wp_handshake m K c) $$ [HO Ht Ht' Hp Hp' Hc Hat]
  · isplitr; · iexact Hctx
    isplitl [HO]; · iexact HO
    isplitl [Ht]; · iexact Ht
    isplitl [Ht']; · iexact Ht'
    isplitl [Hp]; · iexact Hp
    isplitl [Hp']; · iexact Hp'
    isplitl [Hc]; · iexact Hc
    iexact Hat
  iintro ⟨HO, Hat, Hr, Ho⟩
  ihave Hup2 := (a2_join c) $$ [Hup2 Hr]
  · isplitl [Hup2]; · iexact Hup2
    iexact Hr
  ihave Hup3 := (a3_join c) $$ [Hup3 Ho]
  · isplitl [Hup3]; · iexact Hup3
    iexact Ho
  iapply (wp_issue m K c 0 0) $$ [Hl Hl' Hb Hb' Hup1 Hup2 Hps2 HO]
  · isplitr; · iexact Hctx
    isplitr [HO]; rotate_left
    · iexact HO
    unfold Rest
    isplitl [Hl]; · iapply (Entails.of_eq (load_lt c 0)); iexact Hl
    isplitl [Hl']; · iapply (Entails.of_eq (load_lt c 1)); iexact Hl'
    isplitl [Hb]; · iapply (Entails.of_eq (slot_lt m c 0 (by decide))); iexact Hb
    isplitl [Hb']; · iapply (Entails.of_eq (slot_lt m c 1 (by decide))); iexact Hb'
    isplitl [Hup1]; · iexact Hup1
    isplitl [Hup2]; · iapply (Entails.of_eq (up_zero (A2 c)).symm); iexact Hup2
    isplitr; · iapply (Entails.of_eq (dn_zero (B2 m c)).symm); iempintro
    isplitl [Hps2]; · iapply (Entails.of_eq (up_zero (ps c 2)).symm); iexact Hps2
    iapply (Entails.of_eq (dn_zero (pd c 2)).symm); iempintro
  iintro ⟨HR, HO⟩
  iapply (wp_issue m K c 1 0) $$ [HR HO]
  · isplitr; · iexact Hctx
    isplitl [HR]; · iexact HR
    iexact HO
  iintro ⟨HR, HO⟩
  iapply (loop c (chunkStep c) (fun k => iprop(ctx m K ∗ Round m c k)) (fun k _ => wp_round m K c k) 64 (le_refl _)) $$ [HR HO Hup3]
  · isplitr; · iexact Hctx
    unfold Round
    isplitl [HO]; · iexact HO
    isplitl [HR]; · iexact HR
    isplitl [Hup3]; · iapply (Entails.of_eq (up_zero (A3 c)).symm); iexact Hup3
    iapply (Entails.of_eq (dn_zero (B3 c)).symm); iempintro
  iintro ⟨-, HR⟩
  unfold Round Rest
  icases HR with ⟨HO, ⟨Hf, Hf', Hs, Hs', -, -, HB2, Hps2, Hpd2⟩, -, HB3⟩
  iapply (loop c (waitYr c) (fun k => iprop(ctx m K ∗ InYr m c k)) (fun k _ => wp_inYr m K c k) 64 (le_refl _)) $$ [H5 HO]
  · isplitr; · iexact Hctx
    unfold InYr
    isplitl [HO]; · iexact HO
    isplitl [H5]; · iapply (Entails.of_eq (up_zero (fun k => iprop(ps c 5 k ∗ cr c 5 k))).symm); iexact H5
    iapply (Entails.of_eq (dn_zero _).symm); iempintro
  iintro ⟨-, HY⟩
  unfold InYr
  icases HY with ⟨HO, -, HY⟩
  iapply (wp_lastXs m K c) $$ [Hs Hs' Hps2 Hpd2 HO]
  · isplitr; · iexact Hctx
    isplitl [Hs]; · iexact Hs
    isplitl [Hs']; · iexact Hs'
    isplitl [Hps2]; · iexact Hps2
    isplitl [Hpd2]; · iexact Hpd2
    iexact HO
  iintro ⟨Hb, Hb', Hpd2, HO⟩
  ihave HB3 := (show dn 64 (B3 (F := F) c) ⊢ iprop(bigSep Finset.univ (pd c 3) ∗ bigSep Finset.univ (cr c 1) ∗ bigSep Finset.univ (cr c 4)) from
    Entails.of_eq (by rw [dn_top _ (le_refl _)]; unfold B3; simp only [all_sep])) $$ HB3
  icases HB3 with ⟨Hpd3, Hc1, Hc4⟩
  iapply (loop c (fun k P => waitYs c k (waitSt c k P)) (fun k => iprop(ctx m K ∗ OutY m c k)) (fun k _ => wp_outY m K c k) 64 (le_refl _)) $$ [Hps4 Hps1 Hc1 Hc4 HO]
  · isplitr; · iexact Hctx
    unfold OutY
    isplitl [HO]; · iexact HO
    isplitl [Hps4 Hps1 Hc1 Hc4]
    · iapply (Entails.of_eq (show iprop((bigSep Finset.univ (ps (F := F) c 4) ∗ bigSep Finset.univ (cr c 4)) ∗ bigSep Finset.univ (ps c 1) ∗ bigSep Finset.univ (cr c 1))
          = up 0 (fun k => iprop((ps c 4 k ∗ cr c 4 k) ∗ ps c 1 k ∗ cr c 1 k)) by rw [up_zero]; simp only [all_sep]))
      isplitl [Hps4 Hc4]
      · isplitl [Hps4]; · iexact Hps4
        iexact Hc4
      isplitl [Hps1] <;> iassumption
    iapply (Entails.of_eq (dn_zero _).symm); iempintro
  iintro ⟨-, HZ⟩
  unfold OutY
  icases HZ with ⟨HO, -, HZ⟩
  iapply Hk
  isplitl [HO]; · iexact HO
  isplitl [Hat]; · iexact Hat
  isplitl [Hf Hf' Hb Hb']
  · isplitl [Hf Hf']
    · isplitl [Hf]; · iapply (Entails.of_eq (load_top c 0)); iexact Hf
      iapply (Entails.of_eq (load_top c 1)); iexact Hf'
    isplitl [Hb] <;> iassumption
  isplitl [HB2]; · iapply (Entails.of_eq (dn_top (B2 m c) (le_refl 64))); iexact HB2
  isplitl [Hpd3]; · iexact Hpd3
  isplitl [Hpd2]; · iapply (Entails.of_eq (dn_top (pd c 2) (le_refl 64))); iexact Hpd2
  isplitl [HY]; · iapply (Entails.of_eq (dn_top _ (le_refl 64))); iexact HY
  iapply (Entails.of_eq (dn_top _ (le_refl 64))); iexact HZ

end Whole

end Cert.AllReduce

end
-- ==== Proof.Buffers.lean ====
/- The buffers of a device, whole and by pieces: the input and the result by the chunks of both halves of the rows, the
   three scratch buffers by slots and by chunks. -/
module

public import proofs.«01_k».proof.Proof.Body
public import Idealize.ShloMosaic.Lib.Ring

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## Element sets -/

/-- The elements of an input chunk. -/
theorem set_xC (d : Dev nD) (k : Fin 64) : (xC d k).view.set = (ownR d k).set := View.set_slice_whole _ _
/-- The elements of a result chunk. -/
theorem set_oC (d : Dev nD) (k : Fin 64) : (oC d k).view.set = (ownR d k).set := View.set_slice_whole _ _
/-- The elements of a chunk of the receive buffer. -/
theorem set_rC (k : Fin 64) : (rC k).view.set = (chunkR k).set := View.set_slice_whole _ _
/-- The elements of a float32 slot. -/
theorem set_fC (k : Fin 64) : (fC k).view.set = (slotR k).set := (View.set_reshape _ _).trans (View.set_slice_whole _ _)
/-- The elements of a bfloat16 slot. -/
theorem set_bC (k : Fin 64) : (bC k).view.set = (slotR k).set := (View.set_reshape _ _).trans (View.set_slice_whole _ _)

/-- A piece held at whatever contents, said without reading it. -/
theorem any_eq {sp : Space} {sh : Shape} {e : EltTy} (M : Memref sig .tc sp sh e) :
    any (F := F) c M = iprop(∃ f, M.view.loc (c : Thread nD τ) ↦[M.view.set]{fullShare} f) := by
  refine BI.equiv_iff.mp ⟨show any c M ⊢ iprop(∃ f, M.view.loc (c : Thread nD τ) ↦[M.view.set]{fullShare} f) from ?_,
    show iprop(∃ f, M.view.loc (c : Thread nD τ) ↦[M.view.set]{fullShare} f) ⊢ any c M from ?_⟩
  · unfold any owns
    iintro ⟨%X, %f, -, H⟩; iexists f; iexact H
  · unfold any owns
    iintro ⟨%f, H⟩; iexists (M.view.read (Elt F) f); iexists f; isplitr; rotate_left
    · iexact H
    · ipureintro; exact rfl

/-- Over both halves: over the own half, and over the other. -/
theorem both (A : Bool × Fin 64 → sProp 𝕄) :
    bigSep Finset.univ A = iprop((bigSep Finset.univ fun k => A (false, k)) ∗ bigSep Finset.univ fun k => A (true, k)) := by
  rw [bigSep_univ_prod]
  exact bigSep_univ_eq_bigSepL [false, true] (by decide) (by decide) _
/-- Two slots, one by one. -/
theorem slots2 (A : Fin 2 → sProp 𝕄) : bigSep Finset.univ A = iprop(A 0 ∗ A 1) :=
  bigSep_univ_eq_bigSepL [0, 1] (by decide) (by decide) A

/-! ## The input -/

/-- Chunk `k` of the other half of the input. -/
def xOth (k : Fin 64) : sProp 𝕄 :=
  (xC (yDev c) k).view.loc (c : Thread nD τ) ↦[(xC (yDev c) k).view.set]{fullShare} m ((c : Thread nD τ).loc main_arg0)

/-- The input is the chunks of its two halves. -/
theorem x_split : ((c : Thread nD τ).loc main_arg0 ↦{fullShare} m ((c : Thread nD τ).loc main_arg0) : sProp 𝕄)
    = iprop(bigSep Finset.univ (xPt m c) ∗ bigSep Finset.univ (xOth m c)) := by
  rw [pointsTo_blocks (ℓ := (c : Thread nD τ).loc main_arg0) (fun a : Bool × Fin 64 => (ownR (halfDev c a.1) a.2).set)
    (halves_disjoint c) (halves_cover c), both]
  refine congrArg₂ (fun A B => iprop(A ∗ B)) (bigSep_congr fun k _ => ?_) (bigSep_congr fun k _ => ?_)
  · unfold xPt; rw [set_xC]; rfl
  · unfold xOth; rw [set_xC]; rfl

/-! ## The result -/

/-- The result is the chunks of its two halves. -/
theorem out_split (f : Buf (Elt F) ((c : Thread nD τ).loc main_v1)) : ((c : Thread nD τ).loc main_v1 ↦{fullShare} f : sProp 𝕄)
    = iprop((bigSep Finset.univ fun k => (oC c k).view.loc (c : Thread nD τ) ↦[(oC c k).view.set]{fullShare} f)
        ∗ bigSep Finset.univ fun k => (oC (yDev c) k).view.loc (c : Thread nD τ) ↦[(oC (yDev c) k).view.set]{fullShare} f) := by
  rw [pointsTo_blocks (ℓ := (c : Thread nD τ).loc main_v1) (fun a : Bool × Fin 64 => (ownR (halfDev c a.1) a.2).set)
    (halves_disjoint c) (halves_cover c), both]
  refine congrArg₂ (fun A B => iprop(A ∗ B)) (bigSep_congr fun k _ => ?_) (bigSep_congr fun k _ => ?_)
  · rw [set_oC]; rfl
  · rw [set_oC]; rfl

/-- An entailment for each is one for all. -/
theorem mono_all {I : Type} [Fintype I] {A B : I → sProp 𝕄} (h : ∀ i, A i ⊢ B i) : bigSep Finset.univ A ⊢ bigSep Finset.univ B :=
  bigSep_mono fun i _ => h i

/-- The result array at the start: its rows, at whatever they hold. -/
theorem out_enter (f : Buf (Elt F) ((c : Thread nD τ).loc main_v1)) : ((c : Thread nD τ).loc main_v1 ↦{fullShare} f : sProp 𝕄)
    ⊢ iprop((bigSep Finset.univ fun k => any c (oC c k)) ∗ bigSep Finset.univ fun k => any c (oC (yDev c) k)) := by
  rw [out_split]
  iintro ⟨H1, H2⟩
  isplitl [H1]
  · iapply (mono_all (A := fun k => (oC c k).view.loc (c : Thread nD τ) ↦[(oC c k).view.set]{fullShare} f)
      (fun k => by rw [any_eq]; iintro H; iexists f; iexact H)); iexact H1
  · iapply (mono_all (A := fun k => (oC (yDev c) k).view.loc (c : Thread nD τ) ↦[(oC (yDev c) k).view.set]{fullShare} f)
      (fun k => by rw [any_eq]; iintro H; iexists f; iexact H)); iexact H2

/-- A chunk of the result that holds its owner's sums holds the result's values. -/
theorem out_chunk {d : Dev nD} (h : d.val / 2 = c.val / 2) (k : Fin 64) :
    owns (c : Thread nD τ) (oC d k) fullShare (sv m d k)
      ⊢ ((oC d k).view.loc (c : Thread nD τ) ↦[(oC d k).view.set]{fullShare} (outV m c : Buf (Elt F) ((oC d k).view.loc (c : Thread nD τ))) : sProp 𝕄) := by
  unfold owns
  iintro ⟨%f, %hf, H⟩
  iapply (Entails.of_eq (pointsTo_congr (eq_of_read_eq (hf.trans (read_outV m h k).symm)))); iexact H

/-- The result array at the end: all its rows hold the sums. -/
theorem out_leave : iprop((bigSep Finset.univ fun k => owns (c : Thread nD τ) (oC c k) fullShare (sv m c k))
      ∗ bigSep Finset.univ fun k => owns (c : Thread nD τ) (oC (yDev c) k) fullShare (sv m (yDev c) k))
    ⊢ ((c : Thread nD τ).loc main_v1 ↦{fullShare} outV m c : sProp 𝕄) := by
  rw [out_split]
  iintro ⟨H1, H2⟩
  isplitl [H1]
  · iapply (mono_all (A := fun k => owns (c : Thread nD τ) (oC c k) fullShare (sv m c k)) (fun k => out_chunk m c rfl k)); iexact H1
  · iapply (mono_all (A := fun k => owns (c : Thread nD τ) (oC (yDev c) k) fullShare (sv m (yDev c) k)) (fun k => out_chunk m c (yDev_row c) k)); iexact H2

/-! ## The scratch buffers -/

/-- The float32 buffer, split into its slots. -/
theorem f_enter : iprop(∃ f : Buf (Elt F) ((c : Thread nD τ).loc cc0_scratch0), ((c : Thread nD τ).loc cc0_scratch0) ↦{fullShare} f)
    ⊢ iprop(any (F := F) c (fC 0) ∗ any c (fC 1)) := by
  rw [any_eq, any_eq, set_fC, set_fC]
  iintro ⟨%f, H⟩
  ihave H' := (Entails.of_eq ((pointsTo_blocks (ℓ := (c : Thread nD τ).loc cc0_scratch0) (fun a : Fin 2 => (slotR ⟨a.val, by omega⟩).set)
    slots_disjoint slots_cover f).trans (slots2 _))) $$ H
  icases H' with ⟨H1, H2⟩
  isplitl [H1]
  · iexists f; iexact H1
  · iexists f; iexact H2
/-- The float32 slots, joined. -/
theorem f_leave (f₀ : Buf (Elt F) ((c : Thread nD τ).loc cc0_scratch0)) : iprop(any (F := F) c (fC 0) ∗ any c (fC 1))
    ⊢ iprop(∃ f : Buf (Elt F) ((c : Thread nD τ).loc cc0_scratch0), ((c : Thread nD τ).loc cc0_scratch0) ↦{fullShare} f) := by
  rw [any_eq, any_eq, set_fC, set_fC]
  refine BIBase.Entails.trans ?_ (pointsTo_blocks_join_exists (ℓ := (c : Thread nD τ).loc cc0_scratch0) (fun a : Fin 2 => (slotR ⟨a.val, by omega⟩).set)
    slots_disjoint slots_cover f₀)
  rw [slots2]
  exact Entails.of_eq rfl

/-- The bfloat16 buffer, split into its slots. -/
theorem b_enter : iprop(∃ f : Buf (Elt F) ((c : Thread nD τ).loc cc0_scratch1), ((c : Thread nD τ).loc cc0_scratch1) ↦{fullShare} f)
    ⊢ iprop(any (F := F) c (bC 0) ∗ any c (bC 1)) := by
  rw [any_eq, any_eq, set_bC, set_bC]
  iintro ⟨%f, H⟩
  ihave H' := (Entails.of_eq ((pointsTo_blocks (ℓ := (c : Thread nD τ).loc cc0_scratch1) (fun a : Fin 2 => (slotR ⟨a.val, by omega⟩).set)
    slots_disjoint slots_cover f).trans (slots2 _))) $$ H
  icases H' with ⟨H1, H2⟩
  isplitl [H1]
  · iexists f; iexact H1
  · iexists f; iexact H2
/-- The bfloat16 slots, joined. -/
theorem b_leave (f₀ : Buf (Elt F) ((c : Thread nD τ).loc cc0_scratch1)) : iprop(any (F := F) c (bC 0) ∗ any c (bC 1))
    ⊢ iprop(∃ f : Buf (Elt F) ((c : Thread nD τ).loc cc0_scratch1), ((c : Thread nD τ).loc cc0_scratch1) ↦{fullShare} f) := by
  rw [any_eq, any_eq, set_bC, set_bC]
  refine BIBase.Entails.trans ?_ (pointsTo_blocks_join_exists (ℓ := (c : Thread nD τ).loc cc0_scratch1) (fun a : Fin 2 => (slotR ⟨a.val, by omega⟩).set)
    slots_disjoint slots_cover f₀)
  rw [slots2]
  exact Entails.of_eq rfl

/-- The receive buffer, split into its chunks. -/
theorem r_enter : iprop(∃ f : Buf (Elt F) ((c : Thread nD τ).loc cc0_scratch2), ((c : Thread nD τ).loc cc0_scratch2) ↦{fullShare} f)
    ⊢ bigSep Finset.univ fun k => any (F := F) c (rC k) := by
  iintro ⟨%f, H⟩
  ihave H' := (Entails.of_eq (pointsTo_blocks (ℓ := (c : Thread nD τ).loc cc0_scratch2) (fun k => (chunkR k).set) chunks_disjoint chunks_cover f)) $$ H
  iapply (mono_all (A := fun k => (c : Thread nD τ).loc cc0_scratch2 ↦[(chunkR k).set]{fullShare} f)
    (fun k => by rw [any_eq, set_rC]; iintro H; iexists f; iexact H)); iexact H'
/-- The receive buffer's chunks, joined. -/
theorem r_leave (f₀ : Buf (Elt F) ((c : Thread nD τ).loc cc0_scratch2)) : (bigSep Finset.univ fun k => any (F := F) c (rC k))
    ⊢ iprop(∃ f : Buf (Elt F) ((c : Thread nD τ).loc cc0_scratch2), ((c : Thread nD τ).loc cc0_scratch2) ↦{fullShare} f) := by
  refine BIBase.Entails.trans ?_ (pointsTo_blocks_join_exists (ℓ := (c : Thread nD τ).loc cc0_scratch2) (fun k => (chunkR k).set) chunks_disjoint chunks_cover f₀)
  exact mono_all fun k => by rw [any_eq, set_rC]

end Cert.AllReduce

end
-- ==== Proof.Device.lean ====
/- One device's part of the run: what it holds when the kernel starts, what when it ends, and that the body leads from the
   one to the other. -/
module

public import proofs.«01_k».proof.Proof.Buffers

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## All cells of a device -/

/-- The cells of a device are the barrier's and one for each (semaphore, chunk). -/
theorem over_option (A : Option (Fin 6 × Fin 64) → sProp 𝕄) :
    bigSep Finset.univ A = iprop(A none ∗ bigSep Finset.univ fun p => A (some p)) := by
  have h : (Finset.univ : Finset (Option (Fin 6 × Fin 64))) = insert none (Finset.univ.map Function.Embedding.some) := by
    ext x; cases x <;> simp
  rw [h, bigSep_insert (by simp), bigSep_map]; rfl

/-- A family over (semaphore, chunk), semaphore by semaphore. -/
theorem over_six (A : Fin 6 × Fin 64 → sProp 𝕄) :
    bigSep Finset.univ A = iprop((bigSep Finset.univ fun k => A (0, k)) ∗ (bigSep Finset.univ fun k => A (1, k)) ∗ (bigSep Finset.univ fun k => A (2, k))
      ∗ (bigSep Finset.univ fun k => A (3, k)) ∗ (bigSep Finset.univ fun k => A (4, k)) ∗ bigSep Finset.univ fun k => A (5, k)) := by
  rw [bigSep_univ_prod]; exact bigSep_univ_eq_bigSepL [0, 1, 2, 3, 4, 5] (by decide) (by decide) _

/-- Over the cells of a device: the barrier's, and the six of each chunk. -/
theorem over_cells (A : Option (Fin 6 × Fin 64) → sProp 𝕄) :
    bigSep Finset.univ A = iprop(A none ∗ (bigSep Finset.univ fun k => A (some (0, k))) ∗ (bigSep Finset.univ fun k => A (some (1, k)))
      ∗ (bigSep Finset.univ fun k => A (some (2, k))) ∗ (bigSep Finset.univ fun k => A (some (3, k)))
      ∗ (bigSep Finset.univ fun k => A (some (4, k))) ∗ bigSep Finset.univ fun k => A (some (5, k))) := by
  rw [over_option, over_six]

/-- A persistent assertion serves every member. -/
theorem with_all {I : Type} [Fintype I] [DecidableEq I] {R : sProp 𝕄} [BI.Persistent R] {A B : I → sProp 𝕄} (h : ∀ i, iprop(R ∗ A i) ⊢ B i) :
    iprop(R ∗ bigSep Finset.univ A) ⊢ bigSep Finset.univ B :=
  (sep_mono_left (BI.bigSep_of_persistent Finset.univ R)).trans (by rw [← all_sep]; exact mono_all h)

/-- When all its waits are over, a device closes its cells: their counters are zero and its own again. -/
theorem close_cells (K : Cell → ℕ) (c : Dev nD) :
    iprop(ctx m K ∗ bigSep Finset.univ fun o => atPos ER (kcell (c, o)) 1 ∅ 0)
      ⊢ |={Set.univ}=> bigSep Finset.univ fun o => (semVal (kcell (c, o)) 0 : sProp 𝕄) := by
  refine BIBase.Entails.trans (with_all (B := fun o => iprop(|={Set.univ}=> semVal (kcell (c, o)) 0)) fun o => ?_) (bigSep_fupd _ _)
  iintro ⟨#Hctx, H⟩
  iapply (Rounds.cell_close ER (Rd m) (κ := K (c, o)) (Set.mem_univ _) (fun h => h) (R := 1) (duties_later m (kcell (c, o))))
  isplitr
  · unfold ctx
    icases Hctx with ⟨#Hi, -, -⟩
    iapply (all_elim ((c, o) : Cell) (Φ := fun x => cellInv ER (Rd m) (K x) (kcell x))); iexact Hi
  iexact H

/-! ## At the start and at the end -/

/-- The tokens of the duties device `c` fulfils. -/
def payToks (c : Dev nD) : sProp 𝕄 :=
  iprop(dutyTok ER (barCell (xDev c)) 0 false ∗ dutyTok ER (barCell (yDev c)) 0 true ∗ bigSep Finset.univ (tk c 0) ∗ bigSep Finset.univ (tk c 1)
    ∗ bigSep Finset.univ (tk c 2) ∗ bigSep Finset.univ (tk (xDev c) 3) ∗ bigSep Finset.univ (tk c 4) ∗ bigSep Finset.univ (tk (yDev c) 5))
/-- Its share of the protocol: its positions and those tokens. -/
def share (c : Dev nD) : sProp 𝕄 := iprop((bigSep Finset.univ fun o => atPos ER (kcell (c, o)) 0 ∅ 0) ∗ payToks c)
/-- What all know of the cells. -/
def records (K : Cell → ℕ) : sProp 𝕄 :=
  iprop((bigSep Finset.univ fun x => cellInv ER (Rd m) (K x) (kcell x)) ∗ bigSep Finset.univ fun x => reached ER (kcell x) 0)
/-- The records can be used again and again. -/
instance records_persistent (K : Cell → ℕ) : BI.Persistent (records m K) := by unfold records; infer_instance
/-- What others owe `c` at the start. -/
def owedTo (c : Dev nD) : sProp 𝕄 :=
  iprop(cred (tallyAt (barCell c) () 2) ∗ bigSep Finset.univ (cr c 3) ∗ bigSep Finset.univ (cr c 5))

/-- The three scratch buffers, at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The input as launched, the result array at `f`. -/
def arrays (c : Dev nD) (f : Buf (Elt F) ((c : Thread nD τ).loc main_v1)) : sProp 𝕄 :=
  iprop(((c : Thread nD τ).loc main_arg0 ↦{fullShare} m ((c : Thread nD τ).loc main_arg0)) ∗ ((c : Thread nD τ).loc main_v1 ↦{fullShare} f))

/-- What a device has at its start, beside its scratch buffers. -/
def start (c : Dev nD) : sProp 𝕄 :=
  iprop((∃ K, records m K ∗ share c) ∗ owedTo c ∗ levAts L lv ∗ arrays m c (m ((c : Thread nD τ).loc main_v1)))

/-- What a device has before the body. -/
def Φ₀ (c : Dev nD) : sProp 𝕄 := iprop(start m c ∗ scratch c)
/-- What a device has after the body. -/
def Φ₁ (c : Dev nD) : sProp 𝕄 :=
  iprop(arrays m c (outV m c) ∗ (bigSep Finset.univ fun o => semVal (kcell (c, o)) 0) ∗ scratch c)

/-- Proof data of the launch: no window; the device owes at the start and nothing at the end. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## From the one to the other -/

/-- What the body needs for its chunks, from the launch's shares. -/
theorem each_intro (c : Dev nD) :
    iprop((bigSep Finset.univ (xPt m c) ∗ bigSep Finset.univ (tk c 0)) ∗ (bigSep Finset.univ (ps c 0) ∗ bigSep Finset.univ (tk c 2) ∗ bigSep Finset.univ (tk (xDev c) 3))
        ∗ (bigSep Finset.univ (ps c 3) ∗ bigSep Finset.univ (cr c 3) ∗ bigSep Finset.univ (tk c 1) ∗ (bigSep Finset.univ fun k => any c (oC c k)) ∗ bigSep Finset.univ (tk c 4)
          ∗ bigSep Finset.univ (tk (yDev c) 5))
        ∗ bigSep Finset.univ (ps c 2) ∗ (bigSep Finset.univ (ps c 5) ∗ bigSep Finset.univ (cr c 5)) ∗ bigSep Finset.univ (ps c 4) ∗ bigSep Finset.univ (ps c 1))
      = bigSep Finset.univ (Each m c) := by
  rw [each_split]; unfold A1; simp only [all_sep]

/-- What the chunks leave, sorted into arrays, scratch and semaphores. -/
theorem left_elim (c : Dev nD) : bigSep Finset.univ (Left m c)
    = iprop((bigSep Finset.univ (pd c 0) ∗ bigSep Finset.univ (xPt m c)) ∗ bigSep Finset.univ (pd c 3) ∗ bigSep Finset.univ (pd c 2)
      ∗ (bigSep Finset.univ (pd c 5) ∗ bigSep Finset.univ fun k => owns (c : Thread nD τ) (oC (yDev c) k) fullShare (sv m (yDev c) k))
      ∗ ((bigSep Finset.univ (pd c 4) ∗ bigSep Finset.univ (pd c 1)) ∗ (bigSep Finset.univ fun k => owns (c : Thread nD τ) (oC c k) fullShare (sv m c k))
        ∗ bigSep Finset.univ fun k => any c (rC k))) := by
  unfold Left; simp only [all_sep]

/-- A device's own rows of its receive buffer are what it hands to its x neighbour; its result rows in the other half what
    it hands to its y neighbour. -/
theorem barPay_x (c : Dev nD) : (bigSep Finset.univ fun k => any (F := F) c (rC k)) ⊢ barPay (xDev c) false := by
  unfold barPay; rw [if_neg Bool.false_ne_true, xDev_xDev]
/-- What a device hands its neighbour along y: the half of its result that the neighbour fills. -/
theorem barPay_y (c : Dev nD) : (bigSep Finset.univ fun k => any (F := F) c (oC (yDev c) k)) ⊢ barPay (yDev c) true := by
  unfold barPay; rw [if_pos rfl, yDev_yDev]

/-- The body of one device, from what it has at the start to what it has at the end. -/
theorem sound (c : Dev nD) (Q : PUnit → sProp 𝕄) :
    iprop(Φ₀ m c ∗ ow c (O₀ c)) ⊢ iprop((Φ₁ m c ∗ ow c 0 -∗ Q ⟨⟩) -∗ runs c (bodyAt c) Q) := by
  unfold Φ₀ start share payToks owedTo arrays scratch
  rw [x_split, over_cells]
  iintro ⟨⟨⟨⟨%K, #Hrec, ⟨HpB, Hp0, Hp1, Hp2, Hp3, Hp4, Hp5⟩, HtX, HtY, Ht0, Ht1, Ht2, Ht3, Ht4, Ht5⟩, ⟨HcB, Hc3, Hc5⟩, #Hlev, ⟨Hx, Hxo⟩, Hout⟩, Hf, Hb, Hr⟩, HO⟩ Hk
  ihave Hctx := (show iprop(records m K ∗ levAts L lv) ⊢ ctx m K from by
    unfold records ctx
    iintro ⟨⟨H1, H2⟩, H3⟩
    isplitl [H1]; · iexact H1
    isplitl [H2] <;> iassumption) $$ [Hrec Hlev]
  · isplitr; · iexact Hrec
    iexact Hlev
  icases Hctx with #Hctx
  ihave Hf := (f_enter c) $$ Hf
  ihave Hb := (b_enter c) $$ Hb
  ihave Hr := ((r_enter (F := F) c).trans (barPay_x c)) $$ Hr
  ihave Hout := (out_enter c (m ((c : Thread nD τ).loc main_v1))) $$ Hout
  icases Hout with ⟨Ho, Hoy⟩
  ihave Hoy := (barPay_y (F := F) c) $$ Hoy
  iapply (wp_body m K c) $$ [HpB Hp0 Hp1 Hp2 Hp3 Hp4 Hp5 HtX HtY Ht0 Ht1 Ht2 Ht3 Ht4 Ht5 HcB Hc3 Hc5 Hx Hf Hb Hr Ho Hoy HO]
  · isplitr; · iexact Hctx
    isplitl [HO]; · iexact HO
    isplitl [HtX HtY Hr Hoy HcB HpB]
    · unfold Shake
      isplitl [HtX]; · iexact HtX
      isplitl [HtY]; · iexact HtY
      isplitl [Hr]; · iexact Hr
      isplitl [Hoy]; · iexact Hoy
      isplitl [HcB]; · iexact HcB
      iexact HpB
    isplitl [Hf Hb]
    · unfold Slots
      isplitl [Hf]; · iexact Hf
      iexact Hb
    iapply (Entails.of_eq (each_intro m c))
    isplitl [Hx Ht0]
    · isplitl [Hx]; · iexact Hx
      iexact Ht0
    isplitl [Hp0 Ht2 Ht3]
    · isplitl [Hp0]; · iexact Hp0
      isplitl [Ht2]; · iexact Ht2
      iexact Ht3
    isplitl [Hp3 Hc3 Ht1 Ho Ht4 Ht5]
    · isplitl [Hp3]; · iexact Hp3
      isplitl [Hc3]; · iexact Hc3
      isplitl [Ht1]; · iexact Ht1
      isplitl [Ho]; · iexact Ho
      isplitl [Ht4]; · iexact Ht4
      iexact Ht5
    isplitl [Hp2]; · iexact Hp2
    isplitl [Hp5 Hc5]
    · isplitl [Hp5]; · iexact Hp5
      iexact Hc5
    isplitl [Hp4]; · iexact Hp4
    iexact Hp1
  iintro ⟨HO, HpB, HS, HL⟩
  ihave HL := (Entails.of_eq (left_elim m c)) $$ HL
  icases HL with ⟨⟨Hp0, Hx⟩, Hp3, Hp2, ⟨Hp5, Hoy⟩, ⟨Hp4, Hp1⟩, Ho, Hr⟩
  imod (close_cells m K c) $$ [HpB Hp0 Hp1 Hp2 Hp3 Hp4 Hp5] with Hz
  · isplitr; · iexact Hctx
    iapply (Entails.of_eq (over_cells (F := F) fun o => atPos ER (kcell (c, o)) 1 ∅ 0).symm)
    isplitl [HpB]; · iexact HpB
    isplitl [Hp0]; · iexact Hp0
    isplitl [Hp1]; · iexact Hp1
    isplitl [Hp2]; · iexact Hp2
    isplitl [Hp3]; · iexact Hp3
    isplitl [Hp4]; · iexact Hp4
    iexact Hp5
  unfold Slots
  icases HS with ⟨Hf, Hb⟩
  rw [wp_ret]; imodintro
  iapply Hk
  unfold Φ₁ arrays scratch
  isplitr [HO]; rotate_left
  · rw [OX_top c (le_refl 64), OY_top c (le_refl 64), add_zero]; iexact HO
  isplitl [Hx Hxo Ho Hoy]
  · isplitl [Hx Hxo]
    · iapply (Entails.of_eq (x_split m c).symm)
      isplitl [Hx] <;> iassumption
    iapply (out_leave m c)
    isplitl [Ho]; · iexact Ho
    iexact Hoy
  isplitl [Hz]; · iexact Hz
  isplitl [Hf]; · iapply (f_leave c (m ((c : Thread nD τ).loc cc0_scratch0))); iexact Hf
  isplitl [Hb]; · iapply (b_leave c (m ((c : Thread nD τ).loc cc0_scratch1))); iexact Hb
  iapply (r_leave c (m ((c : Thread nD τ).loc cc0_scratch2))); iexact Hr

/-- The body's obligation towards the launch. -/
theorem body_obligation (c : Dev nD) : BodyObligation (dats (F := F) m 0 c) (defs₀ (F := F)) 𝒱₀ () Set.univ := fun t => by
  rw [fin_N0 t]
  have hW (A : Fin cfg0.W → sProp 𝕄) : bigSep Finset.univ A = iprop(emp) := bigSep_empty
  rw [hW, hW, show defs₀ (F := F) Proc.tc cfg0.body (cfg0.bodyArgs t0_0 (cfg0.slots t0_0)) = .op .deviceId bodyAt from body_eq t0_0, wp_deviceId,
    show (dats m 0 c).Φ t0_0.castSucc = Φ₀ m c from rfl, show (dats m 0 c).Φ t0_0.succ = Φ₁ m c from rfl]
  unfold Dat.owesAt Pipeline.owesWithin
  rw [show (dats m 0 c).owed t0_0.castSucc = O₀ c from rfl, show (dats m 0 c).owed t0_0.succ = 0 from rfl]
  iintro ⟨HΦ, ⟨%W, -, HO⟩, -⟩
  iapply (sound m c _) $$ [HΦ HO]
  · isplitl [HΦ]; · iexact HΦ
    unfold ow; iexists W; iexact HO
  unfold ow
  iintro ⟨HΦ, ⟨%W', HO⟩⟩
  isplitl [HΦ]; · iexact HΦ
  isplitl [HO]
  · iexists W'; isplitr; rotate_left
    · iexact HO
    · ipureintro; exact fun _ _ => Or.inl trivial
  iempintro

end Cert.AllReduce

end
-- ==== Proof.Launch.lean ====
/- The launch: the four devices' runs put together. The cells' records and tokens are dealt out, each token to the device
   that pays it, and at the end every device reads its arrays and its counters. -/
module

public import proofs.«01_k».proof.Proof.Device
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores. -/
def osem (p : Fin 6 × Fin 64) : SemLoc sig := .dma (dS p.1 p.2)

/-- Different families or chunks have different semaphores. -/
theorem dS_pair {p q : Fin 6 × Fin 64} (h : dS p.1 p.2 = dS q.1 q.2) : p = q := Prod.ext_iff.mpr (dS_inj h)

/-- Every DMA semaphore is the kernel's own. -/
theorem all_scoped (s : DmaSem sig) : (SemLoc.dma s).isScoped .tc = true := by revert s; decide +kernel

/-- The kernel's own semaphores are told apart. -/
theorem ownSemFacts : Pipeline.OwnSemFacts cfg0.spec osem where
  isScoped p := all_scoped _
  inj p q h := dS_pair (SemLoc.dma.inj h)
  disj _ w := w.elim0

/-- The cells are told apart. -/
theorem kcell_injective : Function.Injective kcell := by
  rintro ⟨c, o⟩ ⟨c', o'⟩ h
  have h1 : c = c' := congrArg (fun g : GSem nD τ sig => g.1.1) h
  have h2 : csem o = csem o' := congrArg Prod.snd h
  subst h1
  rcases o with _ | p <;> rcases o' with _ | q
  · rfl
  · cases h2
  · cases h2
  · rw [dS_pair (SemLoc.dma.inj h2)]

/-- All the cells. -/
def kcells : Finset (GSem nD τ sig) := Finset.univ.map ⟨kcell, kcell_injective⟩

/-- The tokens: two for a barrier cell, one for each other. -/
def tokOf (x : Dev nD × (Bool ⊕ (Fin 6 × Fin 64))) : GSem nD τ sig × ℕ × Bool :=
  match x.2 with
  | .inl d => (barCell x.1, 0, d)
  | .inr p => (cell x.1 p.1 p.2, 0, false)

/-- The tokens are told apart. -/
theorem tokOf_injective : Function.Injective tokOf := by
  rintro ⟨c, j⟩ ⟨c', j'⟩ h
  rcases j with d | p <;> rcases j' with d' | q
  · have h1 : c = c' := congrArg (fun x : GSem nD τ sig × ℕ × Bool => x.1.1.1) h
    have h2 : d = d' := congrArg (fun x : GSem nD τ sig × ℕ × Bool => x.2.2) h
    rw [h1, h2]
  · have h2 : SemLoc.reg barS = SemLoc.dma (dS q.1 q.2) := congrArg (fun x : GSem nD τ sig × ℕ × Bool => x.1.2) h
    cases h2
  · have h2 : SemLoc.dma (dS p.1 p.2) = SemLoc.reg barS := congrArg (fun x : GSem nD τ sig × ℕ × Bool => x.1.2) h
    cases h2
  · have h1 : c = c' := congrArg (fun x : GSem nD τ sig × ℕ × Bool => x.1.1.1) h
    have h2 : SemLoc.dma (dS p.1 p.2) = SemLoc.dma (dS q.1 q.2) := congrArg (fun x : GSem nD τ sig × ℕ × Bool => x.1.2) h
    rw [h1, dS_pair (SemLoc.dma.inj h2)]

/-- All the tokens. -/
def ktoks : Finset (GSem nD τ sig × ℕ × Bool) := Finset.univ.map ⟨tokOf, tokOf_injective⟩

/-- The ghost state the machine is launched with. -/
def u₀ : UU := (initOf (Pipeline.cells cfgs cellOf_inj) (Pipeline.launchToks cfgs cellOf_inj), initOf kcells ktoks)

/-- The tokens of device `c`'s own cells. -/
def toks (c : Dev nD) : sProp 𝕄 :=
  iprop((dutyTok ER (barCell c) 0 false ∗ dutyTok ER (barCell c) 0 true) ∗ bigSep Finset.univ (tk c 0) ∗ bigSep Finset.univ (tk c 1)
    ∗ bigSep Finset.univ (tk c 2) ∗ bigSep Finset.univ (tk c 3) ∗ bigSep Finset.univ (tk c 4) ∗ bigSep Finset.univ (tk c 5))

/-- What device `c` gets of it: its cells' states, positions and tokens. -/
def G (c : Dev nD) : sProp 𝕄 :=
  iprop((bigSep Finset.univ fun o => roundState ER (Rd m) (kcell (c, o)) 0)
    ∗ ((bigSep Finset.univ fun o => atPos ER (kcell (c, o)) 0 ∅ 0) ∗ bigSep Finset.univ fun o => reached ER (kcell (c, o)) 0) ∗ toks c)

/-- All cells, device by device. -/
theorem over_kcells (A : GSem nD τ sig → sProp 𝕄) :
    bigSep kcells A = bigSep Finset.univ fun c : Dev nD => bigSep Finset.univ fun o => A (kcell (c, o)) := by
  unfold kcells; rw [bigSep_map, bigSep_univ_prod]; rfl

/-- All tokens, device by device. -/
theorem over_ktoks : bigSep ktoks (fun x => (dutyTok ER x.1 x.2.1 x.2.2 : sProp 𝕄)) = bigSep Finset.univ fun c : Dev nD => toks c := by
  unfold ktoks; rw [bigSep_map, bigSep_univ_prod]
  refine bigSep_congr fun c _ => ?_
  rw [bigSep_univ_sum, over_six, bigSep_univ_eq_bigSepL [false, true] (by decide) (by decide)]
  rfl

/-- The ghost state of the launch gives each device its share. -/
theorem fund : BI.own (ER (initOf kcells ktoks)) ⊢ (|==> bigSep Finset.univ (G m) : sProp 𝕄) := by
  iintro H
  imod (Rounds.fund ER (Rd m) kcells ktoks) $$ H with ⟨Hst, Hr, Hat, Htok⟩
  imodintro
  ihave Hst := (Entails.of_eq (over_kcells (F := F) fun g => roundState ER (Rd m) g 0)) $$ Hst
  ihave Hat := (Entails.of_eq (over_kcells (F := F) fun g => atPos ER g 0 ∅ 0)) $$ Hat
  ihave Hr := (Entails.of_eq (over_kcells (F := F) fun g => reached ER g 0)) $$ Hr
  ihave Htok := (Entails.of_eq (over_ktoks (F := F))) $$ Htok
  unfold G; simp only [all_sep]
  isplitl [Hst]; · iexact Hst
  isplitl [Hat Hr]
  · isplitl [Hat]; · iexact Hat
    iexact Hr
  iexact Htok

/-! ## The counters -/

/-- The only semaphore that is not the kernel's own is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's counters at zero: the barrier's and the kernel's own. -/
theorem counters_eq (c : Dev nD) : (bigSep Finset.univ fun o => (semVal (kcell (c, o)) 0 : sProp 𝕄))
    = iprop(unscopedSems0 c ∗ Pipeline.ownSems0 (Ix := Unit) (Name := ℕ) (U := UU) (Lvl := ℕ) (Val := Elt F) (τ := τ) osem c) := by
  rw [unscopedSems0_eq, over_option]; rfl

/-- A device opens its cells. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (Rd m) κ (kcell (c, o))))
          ∗ ((bigSep Finset.univ fun o => atPos ER (kcell (c, o)) 0 ∅ 0) ∗ bigSep Finset.univ fun o => reached ER (kcell (c, o)) 0) ∗ toks c) := by
  have hopen : iprop((bigSep Finset.univ fun o => semVal (kcell (c, o)) 0) ∗ bigSep Finset.univ fun o => roundState ER (Rd m) (kcell (c, o)) 0)
      ⊢ (|={Set.univ}=> bigSep Finset.univ fun o => iprop(∃ κ : ℕ, cellInv ER (Rd m) κ (kcell (c, o))) : sProp 𝕄) := by
    rw [← all_sep]
    exact BIBase.Entails.trans (mono_all fun o => (Rounds.body_intro ER (Rd m) (kcell (c, o))).trans inv_alloc) (bigSep_fupd _ _)
  unfold G
  iintro ⟨Hos, Hus, Hst, Hat, Htok⟩
  imod hopen $$ [Hos Hus Hst] with Hinv
  · isplitl [Hos Hus]
    · iapply (Entails.of_eq (counters_eq (F := F) c).symm)
      isplitl [Hus]; · iexact Hus
      iexact Hos
    iexact Hst
  imodintro
  isplitl [Hinv]; · iexact Hinv
  isplitl [Hat]; · iexact Hat
  iexact Htok

/-- Each token to the device that pays it. -/
theorem toks_dealt : (bigSep Finset.univ fun c : Dev nD => (toks c : sProp 𝕄)) ⊢ bigSep Finset.univ fun c : Dev nD => payToks c := by
  unfold toks payToks
  simp only [all_sep]
  rw [bigSep_univ_equiv xPerm (fun c : Dev nD => (dutyTok ER (barCell c) 0 false : sProp 𝕄)),
    bigSep_univ_equiv yPerm (fun c : Dev nD => (dutyTok ER (barCell c) 0 true : sProp 𝕄)),
    bigSep_univ_equiv xPerm (fun c : Dev nD => (bigSep Finset.univ (tk c 3) : sProp 𝕄)),
    bigSep_univ_equiv yPerm (fun c : Dev nD => (bigSep Finset.univ (tk c 5) : sProp 𝕄))]
  iintro ⟨⟨HX, HY⟩, H0, H1, H2, H3, H4, H5⟩
  isplitl [HX]; · iexact HX
  isplitl [HY]; · iexact HY
  isplitl [H0]; · iexact H0
  isplitl [H1]; · iexact H1
  isplitl [H2]; · iexact H2
  isplitl [H3]; · iexact H3
  isplitl [H4]; · iexact H4
  iexact H5

/-- What a device starts with of the protocol. -/
def G' (c : Dev nD) : sProp 𝕄 := iprop(∃ K, records m K ∗ share c)

/-- All devices' cells at once: everyone learns every cell's record, and gets its positions and the tokens it pays. -/
theorem deal :
    (bigSep Finset.univ fun c : Dev nD => iprop((bigSep Finset.univ fun o => iprop(∃ κ : ℕ, cellInv ER (Rd m) κ (kcell (c, o))))
          ∗ ((bigSep Finset.univ fun o => atPos ER (kcell (c, o)) 0 ∅ 0) ∗ bigSep Finset.univ fun o => reached ER (kcell (c, o)) 0) ∗ toks c) : sProp 𝕄)
      ⊢ bigSep Finset.univ (G' m) := by
  rw [all_sep, all_sep, all_sep, ← bigSep_univ_prod (fun x : Cell => iprop(∃ κ : ℕ, cellInv ER (Rd m) κ (kcell x))),
    ← bigSep_univ_prod (fun x : Cell => (reached ER (kcell x) 0 : sProp 𝕄))]
  iintro ⟨HI, ⟨Hat, #HR⟩, Htok⟩
  ihave HK := (BI.bigSep_exists_pi Finset.univ (fun (x : Cell) (κ : ℕ) => (cellInv ER (Rd m) κ (kcell x) : sProp 𝕄))) $$ HI
  icases HK with ⟨%K, #HI⟩
  ihave Htok := (toks_dealt (F := F)) $$ Htok
  iapply (with_all (R := records m K) (A := fun c => share c) fun c => show iprop(records m K ∗ share c) ⊢ G' m c from by
    unfold G'; iintro ⟨H1, H2⟩; iexists K
    isplitl [H1] <;> iassumption)
  isplitr
  · unfold records; isplitl; · iexact HI
    iexact HR
  · unfold share; simp only [all_sep]
    isplitl [Hat]; · iexact Hat
    iexact Htok

/-- From all counters at zero and the ghost state, every device gets its records and the tokens that it pays. -/
theorem glob : (bigSep Finset.univ fun c =>
      iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (mono_all (open_cells m)) (BIBase.Entails.trans (bigSep_fupd _ _) (BI.fupd_mono (deal m)))

/-! ## What is owed to a device at launch -/

/-- Two units of credit on the barrier. -/
theorem cred_bar (c : Dev nD) : iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add _ _ 1 1).symm]
  exact (cred_add _ _).2

/-- What the others owe a device at the start is what it will wait for. -/
theorem owed_intro (c : Dev nD) : (Pipeline.launchCred O₀ c : sProp 𝕄) ⊢ owedTo c := by
  have h : (O₀ : Dev nD → CellTallies nD τ sig Unit)
      = fun d => ((∑ k ∈ Finset.univ, tallyAt (cell (xDev d) 3 k) () (amt 3)) + (∑ k ∈ Finset.univ, tallyAt (cell (yDev d) 5 k) () (amt 5))
          + tallyAt (barCell (yDev d)) () 1) + tallyAt (barCell (xDev d)) () 1 := by
    funext d; unfold O₀ O₁ OX OY; rw [ge_zero]
  rw [h, Pipeline.launchCred_add, Pipeline.launchCred_add, Pipeline.launchCred_add,
    Pipeline.launchCred_sum Finset.univ (fun (k : Fin 64) d => tallyAt (cell (xDev d) 3 k) () (amt 3)),
    Pipeline.launchCred_sum Finset.univ (fun (k : Fin 64) d => tallyAt (cell (yDev d) 5 k) () (amt 5))]
  unfold owedTo
  iintro ⟨⟨⟨H3, H5⟩, HY⟩, HX⟩
  isplitl [HX HY]
  · iapply (cred_bar c)
    isplitl [HX]
    · iapply (Pipeline.launchCred_tallyAt (SemLoc.reg barS) xDev xDev xDev_xDev xDev_xDev () 1 c); iexact HX
    · iapply (Pipeline.launchCred_tallyAt (SemLoc.reg barS) yDev yDev yDev_yDev yDev_yDev () 1 c); iexact HY
  isplitl [H3]
  · iapply (mono_all fun k => Pipeline.launchCred_tallyAt (SemLoc.dma (dS 3 k)) xDev xDev xDev_xDev xDev_xDev () (amt 3) c); iexact H3
  · iapply (mono_all fun k => Pipeline.launchCred_tallyAt (SemLoc.dma (dS 5 k)) yDev yDev yDev_yDev yDev_yDev () (amt 5) c); iexact H5

/-! ## The conditions of the launch -/

/-- What a device is launched with is what its run starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' arrays
  iintro ⟨Harr, Hlev, Hcr, -, HG⟩
  ihave Hc := (owed_intro (F := F) c) $$ Hcr
  imodintro
  isplitl
  · isplitl [HG]; · iexact HG
    isplitl [Hc]; · iexact Hc
    isplitl [Hlev]; · iexact Hlev
    iexact Harr
  · iempintro

/-- A device's buffers at the start of the call. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is read off a device at the end: its arrays and its barrier counter. -/
def atEnd (c : Dev nD) : sProp 𝕄 := iprop(arrays m c (outV m c) ∗ unscopedSems0 c)

/-- A device's buffers and counters at the end of the call. -/
theorem leave (c : Dev nD) :
    (dats m 0 c).Φ (Fin.last cfg0.N) ⊢ iprop(atEnd m c ∗ Pipeline.ownSems0 osem c ∗ Pipeline.scopedRest cfg0.spec c) := by
  rw [show (dats m 0 c).Φ (Fin.last cfg0.N) = Φ₁ m c from rfl, scopedRest0_eq]
  unfold Φ₁ scratch atEnd
  rw [counters_eq]
  iintro ⟨Ha, ⟨Hu, Ho⟩, Hr⟩
  isplitl [Ha Hu]
  · isplitl [Ha]; · iexact Ha
    iexact Hu
  isplitl [Ho]; · iexact Ho
  iexact Hr

/-- Nothing that the call itself waits for is owed. -/
theorem waits (c : Dev nD) : (levAts L lv : sProp 𝕄) ⊢ Pipeline.cellsWaits cfgs (dats m) () 0 c :=
  Pipeline.cellsWaits_intro cfgs (dats m) () 0 c fun w _ _ => w.elim0

/-- What a device's memory holds at the end. -/
def Final (c : Dev nD) (s : MemSt nD τ sig (Elt F)) : Prop :=
  (s.mem ((c : Thread nD τ).loc main_arg0) = m ((c : Thread nD τ).loc main_arg0) ∧ s.mem ((c : Thread nD τ).loc main_v1) = outV m c)
    ∧ ∀ sm : SemLoc sig, sm.isScoped .tc = false → s.sem ((c.tc : Thread nD τ), sm) = 0

/-- At the end each device reads its two arrays. -/
theorem read_end (c : Dev nD) (s : Phys nD τ sig (Elt F)) :
    iprop(atEnd m c ∗ emp ∗ SI s) ⊢ (|={Set.univ}=> iprop(⌜Final m c s.mem⌝ ∗ SI s) : sProp 𝕄) := by
  unfold atEnd arrays
  iintro ⟨⟨⟨Hx, Ho⟩, Hu⟩, -, HSI⟩
  ihave %hx := (SI_pointsTo_agree) $$ [HSI Hx]
  · isplitl [HSI]; · iexact HSI
    iexact Hx
  ihave %ho := (SI_pointsTo_agree) $$ [HSI Ho]
  · isplitl [HSI]; · iexact HSI
    iexact Ho
  imod (Pipeline.unscopedSems0_read (X := unscopedSems0 c) (c := c) fupd_intro s) $$ [Hu HSI] with ⟨%hu, HSI⟩
  · isplitl [Hu] <;> iassumption
  imodintro
  isplitr
  · ipureintro; exact ⟨⟨funext fun i => hx i (Finset.mem_univ i), funext fun i => ho i (Finset.mem_univ i)⟩, hu⟩
  iexact HSI

set_option maxRecDepth 200000 in
/-- The run, over any float values and from any memory with zero counters: every execution ends, each device's input is
    unchanged, its result array is `outV`, and every counter is zero. -/
theorem run_main (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0) ∧ r.2.mem ((c : Thread nD τ).loc main_v1) = outV m c)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => main_chain c)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := atEnd m) (Z := fun _ => iprop(emp))
    (hX := start_intro m ρ) (hin := enter m) (hout := leave m)
    (QY := Final m) (hY := read_end m)
    (hQ := fun _ h hs => ⟨fun c => (h c).2.2.1, sem_eq_zero hs fun c => (h c).2.2.2⟩)

end Cert.AllReduce

end
-- ==== Proof.Values.lean ====
/- What the two programs compute, over the reals: the reference adds the two halves of the whole input; a device of the
   kernel ends with the sum of the two halves that lie on its row of the mesh, in one order or the other. -/
module

public import proofs.«01_k».proof.Defs
public import proofs.«01_k».proof.Proof.Contents
public import proofs.«01_k».proof.Proof.Gen.ReferenceIdeal
public import Idealize.ShloMosaic.Lib.IdealHost
public import Idealize.ShloMosaic.Lib.Pointwise
public import Idealize.ShloMosaic.Lib.Pipeline.Value
public import Idealize.ShloMosaic.PureOps.Ideal.Laws

@[expose] public section

noncomputable section

namespace Cert.AllReduce

open Idealize.ShloMosaic Idealize.ShloMosaic.TcCoe
open Cert.KernelIdeal

/-- The whole input. -/
abbrev Whole : Type := (⟨2, ![65536, 1024]⟩ : Shape).Idx → Elt Ideal .f32

/-- Where the element `j` of half `r` is in the whole input. -/
def inHalf (r : Fin 2) (j : S32768x1024.Idx) : (⟨2, ![65536, 1024]⟩ : Shape).Idx :=
  ix2 ⟨r.val * 32768 + (j 0).val, by have h : (j 0).val < 32768 := (j 0).isLt; omega⟩ ⟨(j 1).val, (j 1).isLt⟩

/-- The sum of the two halves. -/
def total (W : Whole) (j : S32768x1024.Idx) : EReal := (W (inHalf 0 j) : EReal) + (W (inHalf 1 j) : EReal)

/-- The reference's result is the sum of the two halves. -/
theorem reference_total [ReferenceIdeal.Facts] (W : Whole) :
    (truncf .bf16 (Host.reduceAdd (F := Ideal) (shapeCast ReferenceIdeal.S2x32768x1024 W ReferenceIdeal.Facts₀.shapeCasts_S65536x1024_S2x32768x1024)
        (constant ReferenceIdeal.S_ .f32 0x00000000#32) ReferenceIdeal.Facts₀.reducesTo_S2x32768x1024_S32768x1024_d0 ReferenceIdeal.Facts₀.h_S_)
      ReferenceIdeal.Facts₀.bitsLt_bf16_f32 : FVec Ideal ReferenceIdeal.S32768x1024 .bf16) = total W := by
  funext j
  have hcast (r : Fin 2) (k : ReferenceIdeal.S2x32768x1024.Idx) (h0 : (k 0).val = r.val) (h1 : (k 1).val = (j 0).val) (h2 : (k 2).val = (j 1).val) :
      shapeCast ReferenceIdeal.S2x32768x1024 W ReferenceIdeal.Facts₀.shapeCasts_S65536x1024_S2x32768x1024 k = W (inHalf r j) :=
    shapeCast_apply _ _ _ _ (by
      rw [Shape.rowMajor_val_three, Shape.rowMajor_val_two]
      show (r.val * 32768 + (j 0).val) * 1024 + (j 1).val = ((k 0).val * 32768 + (k 1).val) * 1024 + (k 2).val
      rw [h0, h1, h2])
  show Host.reduceAdd (F := Ideal) _ _ _ _ j = _
  rw [ValueIdx.hostReduceAdd_apply, Ideal.hostReduceAdd_r3_a0, Fin.sum_univ_two, hcast 0 _ rfl rfl rfl, hcast 1 _ rfl rfl rfl]
  show Ideal.ofBits .f32 0x00000000#32 + _ = _
  rw [Ideal.ofBits_zero_f32, zero_add]
  rfl

/-- Device `c` holds the half of the whole input that its row of the mesh has. -/
theorem block_half (c : Dev nD) (W : Whole) (j : S32768x1024.Idx) (r : Fin 2) (h : r.val = c.val / 2) :
    Layout.blockN ⟨2, ![32768, 1024]⟩ ⟨2, ![65536, 1024]⟩ (Layout.meshBlock [2, 2] ![[0], []] c) W (by decide) j = W (inHalf r j) := by
  refine congrArg W (funext fun a => Fin.ext ?_)
  have hc : c.val < 4 := c.isLt
  fin_cases a
  · show Layout.meshLin [2, 2] c.val [0] * 32768 + (j 0).val = r.val * 32768 + (j 0).val
    have : Layout.meshLin [2, 2] c.val [0] = r.val := by
      rw [h]; revert hc; generalize c.val = n; intro hn
      interval_cases n <;> decide
    rw [this]
  · show 0 * 1024 + (j 1).val = (j 1).val
    omega

/-- Neighbours along x hold different halves of the whole input. -/
theorem xDev_row (c : Dev nD) : (xDev c).val / 2 = 1 - c.val / 2 := by revert c; decide +kernel
/-- The owner of a row is in the same row of the mesh. -/
theorem ownerOf_row (c : Dev nD) (j : S32768x1024.Idx) : (ownerOf c j).val / 2 = c.val / 2 := by
  have h0 : (j 0).val < 32768 := (j 0).isLt
  show (2 * (c.val / 2) + (j 0).val / 16384) / 2 = c.val / 2
  omega

/-- Every device's result is the sum of the two halves. -/
theorem outV_total (m : (ℓ : Loc nD τ sig) → Buf (Elt Ideal) ℓ) (W : Whole)
    (hm : ∀ c : Dev nD, m ((c : Thread nD τ).loc main_arg0)
      = Layout.blockN ⟨2, ![32768, 1024]⟩ ⟨2, ![65536, 1024]⟩ (Layout.meshBlock [2, 2] ![[0], []] c) W (by decide))
    (c : Dev nD) : outV m c = total W := by
  funext j
  have hX (d : Dev nD) (r : Fin 2) (h : r.val = d.val / 2) : X m d j = W (inHalf r j) :=
    (congrFun (hm d) j).trans (block_half d W j r h)
  show (X m (xDev (ownerOf c j)) j : EReal) + (X m (ownerOf c j) j : EReal) = _
  have hc : c.val < 4 := c.isLt
  have h1 := ownerOf_row c j
  have h2 := xDev_row (ownerOf c j)
  rcases (by omega : c.val / 2 = 0 ∨ c.val / 2 = 1) with h | h
  · rw [hX _ 1 (by rw [h2, h1, h]; rfl), hX _ 0 (by rw [h1, h]; rfl)]; exact add_comm _ _
  · rw [hX _ 0 (by rw [h2, h1, h]; rfl), hX _ 1 (by rw [h1, h]; rfl)]; rfl

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every execution of the kernel ends, with its input unchanged and every counter zero: the run that the idealized program
    has at any float values, since the two programs are one text. -/
theorem frame_kernel : quiescent_Kernel := fun m g _ =>
  (θ_run Cert.KernelIdeal.defs _ _).mono (fun _ h => ⟨fun c => (h.1 c).1, h.2⟩) (AllReduce.run_main (F := Bits) m g)

/-- Every execution of the idealized kernel ends, with its input unchanged and every counter zero. -/
theorem frame_ideal : quiescent_KernelIdeal := fun m g _ =>
  (θ_run Cert.KernelIdeal.defs _ _).mono (fun _ h => ⟨fun c => (h.1 c).1, h.2⟩) (AllReduce.run_main (F := Ideal) m g)

/-- Every execution of the reference ends, with its input unchanged; it has no counter. -/
theorem frame_reference : quiescent_ReferenceIdeal := fun m g _ =>
  (θ_run Cert.ReferenceIdeal.defs _ _).mono (fun r h => ⟨fun c => (h c).2, sem_eq_zero_of_no_sems rfl r.2⟩)
    (ReferenceIdeal.Value.run m g)

/-- When each device's input is the half of the whole input that its row of the mesh has, the kernel and the reference end with
    one result, the sum of the two halves, and leave their inputs unchanged. -/
theorem value : algebraic_KernelIdeal_ReferenceIdeal := fun m g m' g' _ hm =>
  ⟨AllReduce.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (AllReduce.outV_total m _ hm c), (h.1 c).1⟩)
      (AllReduce.run_main (F := Ideal) m g),
    (θ_run Cert.ReferenceIdeal.defs _ _).mono (fun _ h => ⟨(h 0).1.trans (AllReduce.reference_total _), (h 0).2⟩)
      (ReferenceIdeal.Value.run m' g')⟩

/-- Everything that is claimed. -/
theorem claim : Cert.Claim :=
  ⟨Cert.Kernel.Gen.facts, Cert.KernelIdeal.Gen.facts, Cert.ReferenceIdeal.Gen.facts,
    frame_kernel, frame_ideal, frame_reference, trivial, value⟩

end Cert.Proof

end
